-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_schedule [hPre_finite_in_schedule : Cert.Pre_finite_in_schedule.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_schedule.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_schedule [hPre_finite_in_schedule : Cert.Pre_finite_in_schedule.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_schedule.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_in_schedule [hKernelIdeal : Cert.KernelIdeal.Facts] [hPre_finite_in_schedule : Cert.Pre_finite_in_schedule.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_schedule m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_in_schedule [hReferenceIdeal : Cert.ReferenceIdeal.Facts] [hPre_finite_in_schedule : Cert.Pre_finite_in_schedule.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_schedule m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log_n" .f32 0x40DD0C55#32 ((Real.log 1000 : ℝ) : EReal)
  ∧ IdealRules.named_const.Statement Cert.KernelIdeal.κ "log_p1" .f32 0xC1DD0C55#32 ((Real.log (2305843 / 2305843009213693952) : ℝ) : EReal)

def algebraic_KernelIdeal_ReferenceIdeal_pre_finite_in_schedule [hKernelIdeal : Cert.KernelIdeal.Facts] [hReferenceIdeal : Cert.ReferenceIdeal.Facts] [hPre_finite_in_schedule : Cert.Pre_finite_in_schedule.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_schedule m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_in_schedule : Cert.Pre_finite_in_schedule.Facts),
    quiescent_Kernel (hKernel := hKernel)
    ∧ quiescent_KernelIdeal (hKernelIdeal := hKernelIdeal)
    ∧ quiescent_KernelIdeal_pre_finite_in_schedule (hKernelIdeal := hKernelIdeal) (hPre_finite_in_schedule := hPre_finite_in_schedule)
    ∧ quiescent_ReferenceIdeal (hReferenceIdeal := hReferenceIdeal)
    ∧ quiescent_ReferenceIdeal_pre_finite_in_schedule (hReferenceIdeal := hReferenceIdeal) (hPre_finite_in_schedule := hPre_finite_in_schedule)
    ∧ preserves_Kernel_KernelIdeal
    ∧ algebraic_KernelIdeal_ReferenceIdeal_pre_finite_in_schedule (hKernelIdeal := hKernelIdeal) (hReferenceIdeal := hReferenceIdeal) (hPre_finite_in_schedule := hPre_finite_in_schedule)
-- ==== Pre_finite_in_schedule.lean ====
abbrev S640000x2 : Shape := ⟨2, ![640000, 2]⟩
abbrev S640000 : Shape := ⟨1, ![640000]⟩
abbrev S640000x1 : Shape := ⟨2, ![640000, 1]⟩
abbrev S_ : Shape := ⟨0, ![]⟩

class Facts : Prop where
  bcast_S640000_S640000x1_0 : S640000.BroadcastsInDim S640000x1 (![0] : Fin 1 → Fin S640000x1.rank)
  bcast_S_S640000x2 : S_.BroadcastsInDim S640000x2 (![] : Fin 0 → Fin S640000x2.rank)
  bcast_S_S640000x1 : S_.BroadcastsInDim S640000x1 (![] : Fin 0 → Fin S640000x1.rank)
  bcast_S640000x1_S640000x2_0_1 : S640000x1.BroadcastsInDim S640000x2 (![0, 1] : Fin 2 → Fin S640000x2.rank)

variable [Facts]

def fn {F : FTy → Type} [FloatOps F] (main_arg0 : FVec F S640000x2 .f32) (main_arg1 : FVec F S640000x2 .f32) (main_arg2 : IVec S640000 32) : IVec S640000x2 1 :=
  let main_v0 : IVec S640000x1 32 := broadcastInDim S640000x1 ![0] bcast_S640000_S640000x1_0 main_arg2
  let main_v1 : FVec F S640000x2 .f32 := Host.absf main_arg0
  let main_cst : FVec F S_ .f32 := constant S_ .f32 0x7F800000#32
  let main_v2 : FVec F S640000x2 .f32 := broadcastInDim S640000x2 ![] bcast_S_S640000x2 main_cst
  let main_v3 : IVec S640000x2 1 := cmpf .olt main_v1 main_v2
  let main_v4 : FVec F S640000x2 .f32 := Host.absf main_arg1
  let main_cst_0 : FVec F S_ .f32 := constant S_ .f32 0x7F800000#32
  let main_v5 : FVec F S640000x2 .f32 := broadcastInDim S640000x2 ![] bcast_S_S640000x2 main_cst_0
  let main_v6 : IVec S640000x2 1 := cmpf .olt main_v4 main_v5
  let main_v7 : IVec S640000x2 1 := andi main_v3 main_v6
  let main_c : IVec S_ 32 := constantI S_ 32 0#32
  let main_v8 : IVec S640000x1 32 := broadcastInDim S640000x1 ![] bcast_S_S640000x1 main_c
  let main_v9 : IVec S640000x1 1 := cmpi .sge main_v0 main_v8
  let main_v10 : IVec S640000x2 1 := broadcastInDim S640000x2 ![0, 1] bcast_S640000x1_S640000x2_0_1 main_v9
  let main_v11 : IVec S640000x2 1 := andi main_v7 main_v10
  let main_c_1 : IVec S_ 32 := constantI S_ 32 1000#32
  let main_v12 : IVec S640000x1 32 := broadcastInDim S640000x1 ![] bcast_S_S640000x1 main_c_1
  let main_v13 : IVec S640000x1 1 := cmpi .slt main_v0 main_v12
  let main_v14 : IVec S640000x2 1 := broadcastInDim S640000x2 ![0, 1] bcast_S640000x1_S640000x2_0_1 main_v13
  let main_v15 : IVec S640000x2 1 := andi main_v11 main_v14
  main_v15
-- ==== Kernel.lean ====
abbrev S640000x2 : Shape := ⟨2, ![640000, 2]⟩
abbrev S640000 : Shape := ⟨1, ![640000]⟩
abbrev S640000x1 : Shape := ⟨2, ![640000, 1]⟩
abbrev S5000x128 : Shape := ⟨2, ![5000, 128]⟩
abbrev S1000x128 : Shape := ⟨2, ![1000, 128]⟩

abbrev nBuf : Space → Nat
  | .hbm => 23
  | .vmem => 14
  | .smem => 0
  | _ => 0

abbrev bufTy : (tb : Table) → Fin (tcTables nBuf tb) → BufTy
  | .hbm, ⟨0, _⟩ => ⟨S640000x2, .f32⟩
  | .hbm, ⟨1, _⟩ => ⟨S640000x2, .f32⟩
  | .hbm, ⟨2, _⟩ => ⟨S640000, .i32⟩
  | .hbm, ⟨3, _⟩ => ⟨S640000x1, .f32⟩
  | .hbm, ⟨4, _⟩ => ⟨S640000, .f32⟩
  | .hbm, ⟨5, _⟩ => ⟨S5000x128, .f32⟩
  | .hbm, ⟨6, _⟩ => ⟨S640000x1, .f32⟩
  | .hbm, ⟨7, _⟩ => ⟨S640000, .f32⟩
  | .hbm, ⟨8, _⟩ => ⟨S5000x128, .f32⟩
  | .hbm, ⟨9, _⟩ => ⟨S640000x1, .f32⟩
  | .hbm, ⟨10, _⟩ => ⟨S640000, .f32⟩
  | .hbm, ⟨11, _⟩ => ⟨S5000x128, .f32⟩
  | .hbm, ⟨12, _⟩ => ⟨S640000x1, .f32⟩
  | .hbm, ⟨13, _⟩ => ⟨S640000, .f32⟩
  | .hbm, ⟨14, _⟩ => ⟨S5000x128, .f32⟩
  | .hbm, ⟨15, _⟩ => ⟨S5000x128, .i32⟩
  | .hbm, ⟨16, _⟩ => ⟨S5000x128, .f32⟩
  | .hbm, ⟨17, _⟩ => ⟨S5000x128, .f32⟩
  | .hbm, ⟨18, _⟩ => ⟨S640000, .f32⟩
  | .hbm, ⟨19, _⟩ => ⟨S640000, .f32⟩
  | .hbm, ⟨20, _⟩ => ⟨S640000x1, .f32⟩
  | .hbm, ⟨21, _⟩ => ⟨S640000x1, .f32⟩
  | .hbm, ⟨22, _⟩ => ⟨S640000x2, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .i32⟩
  | .local _ .vmem, ⟨9, _⟩ => ⟨S1000x128, .i32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | _, _ => ⟨S640000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13_0 : Ref sig .tc := ⟨.hbm, 16, rfl⟩
abbrev main_v13_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log_n" => some ((Real.log 1000 : ℝ) : EReal)
  | "log_p1" => some ((Real.log (2305843 / 2305843009213693952) : ℝ) : EReal)
  | _ => none
-- ==== ReferenceIdeal.lean ====
abbrev S640000x2 : Shape := ⟨2, ![640000, 2]⟩
abbrev S640000 : Shape := ⟨1, ![640000]⟩
abbrev S_ : Shape := ⟨0, ![]⟩
abbrev S1000 : Shape := ⟨1, ![1000]⟩
abbrev S1 : Shape := ⟨1, ![1]⟩
abbrev S2 : Shape := ⟨1, ![2]⟩
abbrev S640000x1 : Shape := ⟨2, ![640000, 1]⟩

abbrev nBuf : Space → Nat
  | .hbm => 242
  | .vmem => 0
  | .smem => 0
  | _ => 0

abbrev hbmTy0_0 (i : Nat) : BufTy := match i % 128 with
  | 0 => ⟨S640000x2, .f32⟩
  | 1 => ⟨S640000x2, .f32⟩
  | 2 => ⟨S640000, .i32⟩
  | 3 => ⟨S_, .f32⟩
  | 4 => ⟨S_, .f32⟩
  | 5 => ⟨S_, .f32⟩
  | 6 => ⟨S_, .f32⟩
  | 7 => ⟨S1000, .i32⟩
  | 8 => ⟨S1000, .f32⟩
  | 9 => ⟨S_, .f32⟩
  | 10 => ⟨S1000, .f32⟩
  | 11 => ⟨S1000, .f32⟩
  | 12 => ⟨S_, .f32⟩
  | 13 => ⟨S1000, .f32⟩
  | 14 => ⟨S1000, .f32⟩
  | 15 => ⟨S_, .f32⟩
  | 16 => ⟨S1000, .f32⟩
  | 17 => ⟨S1000, .f32⟩
  | 18 => ⟨S_, .f32⟩
  | 19 => ⟨S1000, .f32⟩
  | 20 => ⟨S1000, .f32⟩
  | 21 => ⟨S1000, .f32⟩
  | 22 => ⟨S_, .f32⟩
  | 23 => ⟨S_, .f32⟩
  | 24 => ⟨S1000, .f32⟩
  | 25 => ⟨S1000, .f32⟩
  | 26 => ⟨S_, .f32⟩
  | 27 => ⟨S1000, .f32⟩
  | 28 => ⟨S1000, .f32⟩
  | 29 => ⟨S_, .f32⟩
  | 30 => ⟨S1000, .f32⟩
  | 31 => ⟨S1000, .f32⟩
  | 32 => ⟨S1000, .f32⟩
  | 33 => ⟨S1000, .f32⟩
  | 34 => ⟨S_, .f32⟩
  | 35 => ⟨S1000, .f32⟩
  | 36 => ⟨S1000, .f32⟩
  | 37 => ⟨S_, .f32⟩
  | 38 => ⟨S1000, .f32⟩
  | 39 => ⟨S1000, .f32⟩
  | 40 => ⟨S1000, .f32⟩
  | 41 => ⟨S_, .f32⟩
  | 42 => ⟨S_, .f32⟩
  | 43 => ⟨S1, .f32⟩
  | 44 => ⟨S1, .f32⟩
  | 45 => ⟨S2, .f32⟩
  | 46 => ⟨S2, .f32⟩
  | 47 => ⟨S_, .f32⟩
  | 48 => ⟨S640000, .f32⟩
  | 49 => ⟨S_, .f32⟩
  | 50 => ⟨S640000, .f32⟩
  | 51 => ⟨S640000, .f32⟩
  | 52 => ⟨S640000x1, .f32⟩
  | 53 => ⟨S640000x2, .f32⟩
  | 54 => ⟨S640000x2, .f32⟩
  | 55 => ⟨S640000x2, .f32⟩
  | 56 => ⟨S_, .f32⟩
  | 57 => ⟨S640000, .f32⟩
  | 58 => ⟨S640000x1, .f32⟩
  | 59 => ⟨S640000x1, .f32⟩
  | 60 => ⟨S640000x2, .f32⟩
  | 61 => ⟨S640000x2, .f32⟩
  | 62 => ⟨S_, .f32⟩
  | 63 => ⟨S640000, .f32⟩
  | 64 => ⟨S_, .f32⟩
  | 65 => ⟨S640000, .f32⟩
  | 66 => ⟨S640000, .f32⟩
  | 67 => ⟨S640000x1, .f32⟩
  | 68 => ⟨S640000x2, .f32⟩
  | 69 => ⟨S640000x2, .f32⟩
  | 70 => ⟨S640000x2, .f32⟩
  | 71 => ⟨S_, .f32⟩
  | 72 => ⟨S640000, .f32⟩
  | 73 => ⟨S640000x1, .f32⟩
  | 74 => ⟨S640000x1, .f32⟩
  | 75 => ⟨S640000x2, .f32⟩
  | 76 => ⟨S640000x2, .f32⟩
  | 77 => ⟨S_, .i32⟩
  | 78 => ⟨S640000, .i32⟩
  | 79 => ⟨S640000, .i32⟩
  | 80 => ⟨S_, .i32⟩
  | 81 => ⟨S640000, .i32⟩
  | 82 => ⟨S640000, .i1⟩
  | 83 => ⟨S_, .i32⟩
  | 84 => ⟨S640000, .i32⟩
  | 85 => ⟨S_, .i32⟩
  | 86 => ⟨S640000, .i32⟩
  | 87 => ⟨S640000, .i32⟩
  | 88 => ⟨S640000, .i32⟩
  | 89 => ⟨S1, .f32⟩
  | 90 => ⟨S_, .f32⟩
  | 91 => ⟨S1, .f32⟩
  | 92 => ⟨S_, .f32⟩
  | 93 => ⟨S640000x1, .f32⟩
  | 94 => ⟨S640000, .f32⟩
  | 95 => ⟨S640000x1, .f32⟩
  | 96 => ⟨S640000, .f32⟩
  | 97 => ⟨S640000x1, .f32⟩
  | 98 => ⟨S640000, .f32⟩
  | 99 => ⟨S640000x1, .f32⟩
  | 100 => ⟨S640000, .f32⟩
  | 101 => ⟨S_, .i32⟩
  | 102 => ⟨S640000, .i32⟩
  | 103 => ⟨S640000, .i1⟩
  | 104 => ⟨S_, .i32⟩
  | 105 => ⟨S640000, .i32⟩
  | 106 => ⟨S640000, .i32⟩
  | 107 => ⟨S640000, .i32⟩
  | 108 => ⟨S640000x1, .i32⟩
  | 109 => ⟨S640000, .f32⟩
  | 110 => ⟨S_, .i32⟩
  | 111 => ⟨S640000, .i32⟩
  | 112 => ⟨S640000, .i1⟩
  | 113 => ⟨S_, .i32⟩
  | 114 => ⟨S640000, .i32⟩
  | 115 => ⟨S640000, .i32⟩
  | 116 => ⟨S640000, .i32⟩
  | 117 => ⟨S640000x1, .i32⟩
  | 118 => ⟨S640000, .f32⟩
  | 119 => ⟨S_, .i32⟩
  | 120 => ⟨S640000, .i32⟩
  | 121 => ⟨S640000, .i1⟩
  | 122 => ⟨S_, .i32⟩
  | 123 => ⟨S640000, .i32⟩
  | 124 => ⟨S640000, .i32⟩
  | 125 => ⟨S640000, .i32⟩
  | 126 => ⟨S640000x1, .i32⟩
  | 127 => ⟨S640000, .f32⟩
  | _ => ⟨S640000x2, .f32⟩

abbrev hbmTy0_1 (i : Nat) : BufTy := match i % 128 with
  | 0 => ⟨S_, .i32⟩
  | 1 => ⟨S640000, .i32⟩
  | 2 => ⟨S640000, .i1⟩
  | 3 => ⟨S_, .i32⟩
  | 4 => ⟨S640000, .i32⟩
  | 5 => ⟨S640000, .i32⟩
  | 6 => ⟨S640000, .i32⟩
  | 7 => ⟨S640000x1, .i32⟩
  | 8 => ⟨S640000, .f32⟩
  | 9 => ⟨S640000, .f32⟩
  | 10 => ⟨S640000, .f32⟩
  | 11 => ⟨S640000, .f32⟩
  | 12 => ⟨S640000, .f32⟩
  | 13 => ⟨S640000, .f32⟩
  | 14 => ⟨S640000, .f32⟩
  | 15 => ⟨S_, .f32⟩
  | 16 => ⟨S640000, .f32⟩
  | 17 => ⟨S640000, .f32⟩
  | 18 => ⟨S_, .f32⟩
  | 19 => ⟨S640000, .f32⟩
  | 20 => ⟨S640000, .f32⟩
  | 21 => ⟨S_, .f32⟩
  | 22 => ⟨S640000, .f32⟩
  | 23 => ⟨S640000, .f32⟩
  | 24 => ⟨S640000, .f32⟩
  | 25 => ⟨S_, .f32⟩
  | 26 => ⟨S640000, .f32⟩
  | 27 => ⟨S640000, .f32⟩
  | 28 => ⟨S640000, .f32⟩
  | 29 => ⟨S640000, .f32⟩
  | 30 => ⟨S640000, .f32⟩
  | 31 => ⟨S640000, .f32⟩
  | 32 => ⟨S640000, .i1⟩
  | 33 => ⟨S640000, .f32⟩
  | 34 => ⟨S640000, .f32⟩
  | 35 => ⟨S640000, .f32⟩
  | 36 => ⟨S640000, .f32⟩
  | 37 => ⟨S640000, .f32⟩
  | 38 => ⟨S640000, .f32⟩
  | 39 => ⟨S640000, .f32⟩
  | 40 => ⟨S640000, .f32⟩
  | 41 => ⟨S640000, .f32⟩
  | 42 => ⟨S640000, .f32⟩
  | 43 => ⟨S640000, .f32⟩
  | 44 => ⟨S640000, .f32⟩
  | 45 => ⟨S640000, .f32⟩
  | 46 => ⟨S640000, .f32⟩
  | 47 => ⟨S640000, .f32⟩
  | 48 => ⟨S_, .f32⟩
  | 49 => ⟨S640000, .f32⟩
  | 50 => ⟨S640000, .f32⟩
  | 51 => ⟨S640000, .f32⟩
  | 52 => ⟨S_, .f32⟩
  | 53 => ⟨S640000, .f32⟩
  | 54 => ⟨S640000, .f32⟩
  | 55 => ⟨S640000, .f32⟩
  | 56 => ⟨S640000, .f32⟩
  | 57 => ⟨S640000, .f32⟩
  | 58 => ⟨S640000, .f32⟩
  | 59 => ⟨S640000, .f32⟩
  | 60 => ⟨S640000, .f32⟩
  | 61 => ⟨S640000, .f32⟩
  | 62 => ⟨S640000, .i1⟩
  | 63 => ⟨S640000, .f32⟩
  | 64 => ⟨S640000, .f32⟩
  | 65 => ⟨S640000, .f32⟩
  | 66 => ⟨S640000, .f32⟩
  | 67 => ⟨S640000, .f32⟩
  | 68 => ⟨S640000, .f32⟩
  | 69 => ⟨S640000, .f32⟩
  | 70 => ⟨S640000, .f32⟩
  | 71 => ⟨S640000, .f32⟩
  | 72 => ⟨S640000, .f32⟩
  | 73 => ⟨S640000, .f32⟩
  | 74 => ⟨S640000, .f32⟩
  | 75 => ⟨S640000, .i1⟩
  | 76 => ⟨S640000, .f32⟩
  | 77 => ⟨S640000, .f32⟩
  | 78 => ⟨S640000, .f32⟩
  | 79 => ⟨S640000, .f32⟩
  | 80 => ⟨S640000, .f32⟩
  | 81 => ⟨S640000, .f32⟩
  | 82 => ⟨S640000, .f32⟩
  | 83 => ⟨S640000, .f32⟩
  | 84 => ⟨S640000, .f32⟩
  | 85 => ⟨S640000, .f32⟩
  | 86 => ⟨S640000, .f32⟩
  | 87 => ⟨S640000, .f32⟩
  | 88 => ⟨S640000, .i1⟩
  | 89 => ⟨S640000, .f32⟩
  | 90 => ⟨S640000, .f32⟩
  | 91 => ⟨S640000, .f32⟩
  | 92 => ⟨S640000, .f32⟩
  | 93 => ⟨S640000, .f32⟩
  | 94 => ⟨S640000, .f32⟩
  | 95 => ⟨S640000, .f32⟩
  | 96 => ⟨S640000, .f32⟩
  | 97 => ⟨S640000, .f32⟩
  | 98 => ⟨S640000x1, .f32⟩
  | 99 => ⟨S640000x1, .f32⟩
  | 100 => ⟨S640000x2, .f32⟩
  | 101 => ⟨S_, .f32⟩
  | 102 => ⟨S640000, .f32⟩
  | 103 => ⟨S640000x1, .f32⟩
  | 104 => ⟨S640000x2, .f32⟩
  | 105 => ⟨S640000x2, .f32⟩
  | 106 => ⟨S640000x2, .f32⟩
  | 107 => ⟨S_, .f32⟩
  | 108 => ⟨S640000, .f32⟩
  | 109 => ⟨S640000x1, .f32⟩
  | 110 => ⟨S640000x1, .f32⟩
  | 111 => ⟨S640000x1, .f32⟩
  | 112 => ⟨S640000x2, .f32⟩
  | 113 => ⟨S640000x2, .f32⟩
  | _ => ⟨S640000x2, .f32⟩

abbrev hbmTy (i : Nat) : BufTy := match i / 128 with
  | 0 => hbmTy0_0 i
  | 1 => hbmTy0_1 i
  | _ => ⟨S640000x2, .f32⟩

abbrev bufTy : (tb : Table) → Fin (tcTables nBuf tb) → BufTy
  | .hbm, ⟨i, _⟩ => hbmTy i
  | _, _ => ⟨S640000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_call0_cst : Ref sig .tc := ⟨.hbm, 22, rfl⟩
abbrev main_call1_call0_v0 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call2_cst : Ref sig .tc := ⟨.hbm, 47, rfl⟩
abbrev main_call2_v0 : Ref sig .tc := ⟨.hbm, 48, rfl⟩
abbrev main_call2_cst_0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_cst_1 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_v32 : Ref sig .tc := ⟨.hbm, 61, rfl⟩
abbrev main_call3_cst : Ref sig .tc := ⟨.hbm, 62, rfl⟩
abbrev main_call3_v0 : Ref sig .tc := ⟨.hbm, 63, rfl⟩
abbrev main_call3_cst_0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_cst_1 : Ref sig .tc := ⟨.hbm, 71, rfl⟩
abbrev main_call3_v7 : Ref sig .tc := ⟨.hbm, 72, rfl⟩
abbrev main_call3_v8 : Ref sig .tc := ⟨.hbm, 73, rfl⟩
abbrev main_call3_v9 : Ref sig .tc := ⟨.hbm, 74, rfl⟩
abbrev main_call3_v10 : Ref sig .tc := ⟨.hbm, 75, rfl⟩
abbrev main_v33 : Ref sig .tc := ⟨.hbm, 76, rfl⟩
abbrev main_c : Ref sig .tc := ⟨.hbm, 77, rfl⟩
abbrev main_v34 : Ref sig .tc := ⟨.hbm, 78, rfl⟩
abbrev main_v35 : Ref sig .tc := ⟨.hbm, 79, rfl⟩
abbrev main_c_9 : Ref sig .tc := ⟨.hbm, 80, rfl⟩
abbrev main_v36 : Ref sig .tc := ⟨.hbm, 81, rfl⟩
abbrev main_v37 : Ref sig .tc := ⟨.hbm, 82, rfl⟩
abbrev main_c_10 : Ref sig .tc := ⟨.hbm, 83, rfl⟩
abbrev main_v38 : Ref sig .tc := ⟨.hbm, 84, rfl⟩
abbrev main_c_11 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_c_12 : Ref sig .tc := ⟨.hbm, 101, rfl⟩
abbrev main_v54 : Ref sig .tc := ⟨.hbm, 102, rfl⟩
abbrev main_v55 : Ref sig .tc := ⟨.hbm, 103, rfl⟩
abbrev main_c_13 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_c_14 : Ref sig .tc := ⟨.hbm, 110, rfl⟩
abbrev main_v61 : Ref sig .tc := ⟨.hbm, 111, rfl⟩
abbrev main_v62 : Ref sig .tc := ⟨.hbm, 112, rfl⟩
abbrev main_c_15 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_c_16 : Ref sig .tc := ⟨.hbm, 119, rfl⟩
abbrev main_v68 : Ref sig .tc := ⟨.hbm, 120, rfl⟩
abbrev main_v69 : Ref sig .tc := ⟨.hbm, 121, rfl⟩
abbrev main_c_17 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_c_18 : Ref sig .tc := ⟨.hbm, 128, rfl⟩
abbrev main_v75 : Ref sig .tc := ⟨.hbm, 129, rfl⟩
abbrev main_v76 : Ref sig .tc := ⟨.hbm, 130, rfl⟩
abbrev main_c_19 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_cst_20 : Ref sig .tc := ⟨.hbm, 143, rfl⟩
abbrev main_v88 : Ref sig .tc := ⟨.hbm, 144, rfl⟩
abbrev main_v89 : Ref sig .tc := ⟨.hbm, 145, rfl⟩
abbrev main_cst_21 : Ref sig .tc := ⟨.hbm, 146, rfl⟩
abbrev main_v90 : Ref sig .tc := ⟨.hbm, 147, rfl⟩
abbrev main_v91 : Ref sig .tc := ⟨.hbm, 148, rfl⟩
abbrev main_cst_22 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_cst_23 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_cst_24 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_cst_25 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_cst_26 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_cst_27 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩

abbrev nD : Nat := 1
abbrev τ : Topo := Topo.v7x

variable {F : FTy → Type} [FloatOps F]
-- ==== Proof.RealMath.lean ====
/- The mathematics of the posterior over the real numbers: the kernel's form and the reference's form of one edge, and
   that they agree. No program is mentioned here. -/
module

public import Idealize.ShloMosaic.PureOps.Ideal.Laws

@[expose] public section

noncomputable section

namespace Cert.Posterior

open Real

/-- The logarithm of a sum of two exponentials, as both programs write it: the larger exponent plus a correction. -/
def lae (a b : ℝ) : ℝ := max a b + log (1 + exp (-|a - b|))

theorem lae_comm (a b : ℝ) : lae a b = lae b a := by
  unfold lae
  rw [max_comm, abs_sub_comm]

/-- Adding one number to both exponents adds it to the result. -/
theorem lae_add (a b c : ℝ) : lae (a + c) (b + c) = lae a b + c := by
  unfold lae
  rw [max_add_add_right, add_sub_add_right_eq_sub]
  ring

theorem lae_of_le {a b : ℝ} (h : b ≤ a) : lae a b = log (exp a + exp b) := by
  unfold lae
  rw [max_eq_left h, abs_of_nonneg (sub_nonneg.2 h)]
  have e : exp a + exp b = exp a * (1 + exp (-(a - b))) := by
    rw [mul_add, ← exp_add]
    ring_nf
  rw [e, log_mul (exp_pos a).ne' (by positivity), log_exp]

/-- It is the logarithm of the sum of the exponentials. -/
theorem lae_eq (a b : ℝ) : lae a b = log (exp a + exp b) := by
  rcases le_total b a with h | h
  · exact lae_of_le h
  · rw [lae_comm, lae_of_le h, add_comm]

/-- Minus softplus, as the kernel writes it. -/
def nsp (d : ℝ) : ℝ := -(max d 0 + log (1 + exp (-|d|)))

theorem nsp_eq (d : ℝ) : nsp d = -lae d 0 := by
  unfold nsp lae
  rw [sub_zero]

theorem nsp_sub (a b : ℝ) : nsp (b - a) = a - lae a b := by
  have h := lae_add (b - a) 0 a
  rw [sub_add_cancel, zero_add] at h
  rw [nsp_eq, lae_comm a b, h]
  ring

/-- A log-softmax of a pair, shifted by any number first, at the first entry. -/
theorem softmax_fst (a b M : ℝ) : a - M - log (exp (a - M) + exp (b - M)) = nsp (b - a) := by
  have h := lae_add a b (-M)
  rw [← lae_eq, sub_eq_add_neg a M, sub_eq_add_neg b M, h, nsp_sub]
  ring

/-- The same at the second entry. -/
theorem softmax_snd (a b M : ℝ) : b - M - log (exp (a - M) + exp (b - M)) = nsp (b - a) + (b - a) := by
  rw [← softmax_fst a b M]
  ring

/-- Subtracting a shifted log-sum-exp of a pair is the same log-softmax, at the first entry, -/
theorem logsumexp_fst (a b M : ℝ) : a - (M + log (exp (a - M) + exp (b - M))) = nsp (b - a) := by
  rw [← softmax_fst a b M]
  ring

/-- and at the second. -/
theorem logsumexp_snd (a b M : ℝ) : b - (M + log (exp (a - M) + exp (b - M))) = nsp (b - a) + (b - a) := by
  rw [← softmax_snd a b M]
  ring

/-! ## The schedule -/

/-- The logarithm of the schedule's factor at step `n`. -/
def logAlpha (n : ℕ) : ℝ := log ((1000 - n) / (1001 - n))

/-- The logarithm of what is left of it. -/
def logBeta (n : ℕ) : ℝ := log (1 / (1001 - n))

/-- The logarithm of the product of the factors up to step `n`, which telescopes. -/
def logCum (n : ℕ) : ℝ := log ((1000 - n) / 1001)

/-- The logarithm of what is left of that product. -/
def logCumRest (n : ℕ) : ℝ := log ((1 + n) / 1001)

/-- The small final probability, a float32 number near 1e-12. -/
def p1 : ℝ := 2305843 / 2305843009213693952

theorem le999 {n : ℕ} (h : n < 1000) : (n : ℝ) ≤ 999 := by
  exact_mod_cast Nat.le_of_lt_succ h

theorem alpha_eq {n : ℕ} (h : n < 1000) : (1 : ℝ) - 1 / (1000 - n + 1) = (1000 - n) / (1001 - n) := by
  have := le999 h
  have h1 : (1001 - n : ℝ) ≠ 0 := by linarith
  have h2 : (1000 - n + 1 : ℝ) ≠ 0 := by linarith
  rw [eq_div_iff h1, sub_mul, div_mul_eq_mul_div, one_mul, show (1001 - n : ℝ) = 1000 - n + 1 by ring, div_self h2]
  ring

theorem alpha_pos {n : ℕ} (h : n < 1000) : (0 : ℝ) < (1000 - n) / (1001 - n) := by
  have := le999 h
  exact div_pos (by linarith) (by linarith)

theorem cum_pos {n : ℕ} (h : n < 1000) : (0 : ℝ) < (1000 - n) / 1001 := by
  have := le999 h
  exact div_pos (by linarith) (by norm_num)

theorem exp_logAlpha {n : ℕ} (h : n < 1000) : exp (logAlpha n) = (1000 - n) / (1001 - n) := exp_log (alpha_pos h)

theorem exp_logCum {n : ℕ} (h : n < 1000) : exp (logCum n) = (1000 - n) / 1001 := exp_log (cum_pos h)

theorem beta_eq {n : ℕ} (h : n < 1000) : (1 : ℝ) - exp (logAlpha n) = 1 / (1001 - n) := by
  have := le999 h
  have h1 : (1001 - n : ℝ) ≠ 0 := by linarith
  rw [exp_logAlpha h, eq_div_iff h1, sub_mul, div_mul_cancel₀ _ h1]
  ring

theorem cumRest_eq {n : ℕ} (h : n < 1000) : (1 : ℝ) - exp (logCum n) = (1 + n) / 1001 := by
  rw [exp_logCum h]
  ring

/-- The sum of the logarithms of the factors telescopes. -/
theorem sum_logAlpha (n : ℕ) (h : n < 1000) : ∑ i ∈ Finset.range (n + 1), logAlpha i = logCum n := by
  induction n with
  | zero =>
    rw [Finset.sum_range_one]
    simp [logAlpha, logCum]
  | succ n ih =>
    rw [Finset.sum_range_succ, ih (by omega)]
    have h' := le999 h
    push_cast at h'
    unfold logCum logAlpha
    have h1 : (1001 - ((n + 1 : ℕ) : ℝ)) = 1000 - n := by push_cast; ring
    have h2 : (1000 - n : ℝ) ≠ 0 := by linarith
    have h3 : (1000 - ((n + 1 : ℕ) : ℝ)) ≠ 0 := by push_cast; linarith
    rw [h1, ← log_mul (div_ne_zero h2 (by norm_num)) (div_ne_zero h3 h2)]
    congr 1
    field_simp

/-! ## One edge -/

/-- The kernel's difference of the two unnormalised log-probabilities, from the differences of the two pairs of logits,
    the time step and the constant that it subtracts from the cumulative tables. -/
def kernelDiff (ds dq t c : ℝ) : ℝ :=
  let x0 := nsp ds
  let x1 := nsp ds + ds
  let y0 := nsp dq
  let y1 := nsp dq + dq
  let g := log (1000 - t + 1)
  let cum := (if 1 ≤ t then g else log 1000) - c
  let rest := log (max t 1) - c
  (lae (log (1000 - t) - g + y1) (-g + y0) + lae (cum + x1) (rest + log p1))
    - (lae (-g + log p1 + y1) y0 + lae rest (cum + x0))

/-- The reference's unnormalised log-probability of state 0. -/
def refZero (ds dq : ℝ) (n : ℕ) : ℝ :=
  lae (logBeta n + log p1 + (nsp dq + dq)) (0 + nsp dq) + lae (logCumRest (n - 1) + 0) (logCum (n - 1) + nsp ds)

/-- The reference's unnormalised log-probability of state 1. -/
def refOne (ds dq : ℝ) (n : ℕ) : ℝ :=
  lae (logAlpha n + (nsp dq + dq)) (logBeta n + 0 + nsp dq)
    + lae (logCum (n - 1) + (nsp ds + ds)) (logCumRest (n - 1) + log p1)

theorem logAlpha_eq {n : ℕ} (h : n < 1000) : logAlpha n = log (1000 - n) - log (1000 - n + 1) := by
  have := le999 h
  unfold logAlpha
  rw [log_div (by linarith) (by linarith)]
  ring_nf

theorem logBeta_eq (n : ℕ) : logBeta n = -log (1000 - n + 1) := by
  unfold logBeta
  rw [one_div, log_inv]
  ring_nf

theorem logCum_pred {n : ℕ} (h : n < 1000) :
    logCum (n - 1) = (if (1 : ℝ) ≤ n then log (1000 - n + 1) else log 1000) - log 1001 := by
  have := le999 h
  unfold logCum
  rcases Nat.eq_zero_or_pos n with rfl | hp
  · rw [if_neg (by norm_num), log_div (by norm_num) (by norm_num)]
    norm_num
  · have h1 : (1 : ℝ) ≤ n := by exact_mod_cast hp
    rw [if_pos h1, Nat.cast_sub hp, log_div (by push_cast; linarith) (by norm_num)]
    push_cast
    ring_nf

theorem logCumRest_pred (n : ℕ) : logCumRest (n - 1) = log (max (n : ℝ) 1) - log 1001 := by
  unfold logCumRest
  rcases Nat.eq_zero_or_pos n with rfl | hp
  · rw [log_div (by norm_num) (by norm_num)]
    norm_num
  · have h1 : (1 : ℝ) ≤ n := by exact_mod_cast hp
    rw [max_eq_left h1, Nat.cast_sub hp, log_div (by push_cast; linarith) (by norm_num)]
    push_cast
    ring_nf

/-- The kernel's difference is the reference's: the constant leaves both cumulative tables by the same amount, and so
    does not change the difference. -/
theorem kernelDiff_eq (ds dq c : ℝ) {n : ℕ} (h : n < 1000) :
    kernelDiff ds dq n c = refOne ds dq n - refZero ds dq n := by
  unfold kernelDiff refOne refZero
  dsimp only
  rw [logAlpha_eq h, logBeta_eq, logCum_pred h, logCumRest_pred]
  generalize (if (1 : ℝ) ≤ n then log (1000 - n + 1) else log 1000) = u
  generalize log (max (n : ℝ) 1) = v
  generalize log (1001 : ℝ) = w
  have e1 := lae_add (u - w + (nsp ds + ds)) (v - w + log p1) (w - c)
  have e2 := lae_add (v - w + 0) (u - w + nsp ds) (w - c)
  rw [show u - w + (nsp ds + ds) + (w - c) = u - c + (nsp ds + ds) by ring,
    show v - w + log p1 + (w - c) = v - c + log p1 by ring] at e1
  rw [show v - w + 0 + (w - c) = v - c by ring, show u - w + nsp ds + (w - c) = u - c + nsp ds by ring] at e2
  rw [e1, e2, add_zero (-_), zero_add (nsp dq)]
  ring

/-! ## What float32 rounding absorbs -/

/-- A number less than a half away from zero rounds to zero. -/
theorem round_zero {x : ℝ} (h0 : 0 ≤ x) (h1 : x < 1 / 2) : Idealize.ShloMosaic.Ideal.roundHalfEven x = 0 := by
  have hf : ⌊x⌋ = 0 := Int.floor_eq_zero_iff.2 ⟨h0, by linarith⟩
  have h2 : x - ((0 : ℤ) : ℝ) < 1 / 2 := by push_cast; linarith
  simp only [Idealize.ShloMosaic.Ideal.roundHalfEven, hf, if_pos h2]

/-- A number less than a half below an integer, and not above it, rounds to it. -/
theorem round_up {x : ℝ} {k : ℤ} (h0 : (k : ℝ) - 1 / 2 < x) (h1 : x < k) :
    Idealize.ShloMosaic.Ideal.roundHalfEven x = k := by
  have hf : ⌊x⌋ = k - 1 := by
    rw [Int.floor_eq_iff]
    push_cast
    constructor <;> linarith
  have h2 : ¬ x - ((k - 1 : ℤ) : ℝ) < 1 / 2 := by push_cast; linarith
  have h3 : (1 : ℝ) / 2 < x - ((k - 1 : ℤ) : ℝ) := by push_cast; linarith
  simp only [Idealize.ShloMosaic.Ideal.roundHalfEven, hf, if_neg h2, if_pos h3]
  ring

theorem p1_pos : 0 < p1 := by norm_num [p1]

theorem exp_logBeta {n : ℕ} (h : n < 1000) : exp (logBeta n) = 1 / (1001 - n) := by
  have := le999 h
  exact exp_log (div_pos one_pos (by linarith))

theorem exp_logBeta_p1 {n : ℕ} (h : n < 1000) : exp (logBeta n + log p1) = 1 / (1001 - n) * p1 := by
  rw [exp_add, exp_logBeta h, exp_log p1_pos]

/-- The probability `logBeta + log p1` is positive and below 1e-12. -/
theorem small_prob {n : ℕ} (h : n < 1000) :
    0 < exp (logBeta n + log p1) ∧ exp (logBeta n + log p1) ≤ 1 / 2 * p1 := by
  refine ⟨exp_pos _, ?_⟩
  have := le999 h
  rw [exp_logBeta_p1 h]
  refine mul_le_mul_of_nonneg_right ?_ p1_pos.le
  exact one_div_le_one_div_of_le (by norm_num) (by linarith)

/-- It is below every factor. -/
theorem small_le_logAlpha {n : ℕ} (h : n < 1000) : logBeta n + log p1 ≤ logAlpha n := by
  have := le999 h
  have h1 : (0 : ℝ) < 1001 - n := by linarith
  rw [← exp_le_exp, exp_logBeta_p1 h, exp_logAlpha h, one_div_mul_eq_div]
  refine div_le_div_of_nonneg_right ?_ h1.le
  have : p1 ≤ 1 := by norm_num [p1]
  linarith

/-- The correction that the small term makes to a factor's logarithm: between 0 and 1e-12. -/
theorem correction_small {n : ℕ} (h : n < 1000) :
    0 ≤ log (1 + exp (-|logAlpha n - (logBeta n + log p1)|))
      ∧ log (1 + exp (-|logAlpha n - (logBeta n + log p1)|)) ≤ p1 := by
  have := le999 h
  refine ⟨log_nonneg (by linarith [exp_pos (-|logAlpha n - (logBeta n + log p1)|)]), ?_⟩
  have hle := small_le_logAlpha h
  rw [abs_of_nonneg (sub_nonneg.2 hle), neg_sub, exp_sub, exp_logBeta_p1 h, exp_logAlpha h]
  have h1 : (0 : ℝ) < 1001 - n := by linarith
  have h2 : (1 : ℝ) ≤ 1000 - n := by linarith
  have e : 1 / (1001 - n) * p1 / ((1000 - n) / (1001 - n)) = p1 / (1000 - n : ℝ) := by
    have := h1.ne'
    have : (1000 - n : ℝ) ≠ 0 := by linarith
    field_simp
  rw [e]
  have hp : 0 ≤ p1 / (1000 - n : ℝ) := div_nonneg p1_pos.le (by linarith)
  have hl := log_le_sub_one_of_pos (show (0 : ℝ) < 1 + p1 / (1000 - n) by linarith)
  have hq : p1 / (1000 - n : ℝ) ≤ p1 := div_le_self p1_pos.le h2
  linarith

end Cert.Posterior

end
-- ==== Proof.Scalars.lean ====
/- The operations of the two programs on single elements that are real numbers: each gives the real operation's value.
   The constants that the programs spell, as the real numbers their patterns denote. -/
module

public import proofs.«01_k».proof.Proof.RealMath
public import Idealize.ShloMosaic.PureOps.Ideal.Laws

@[expose] public section

noncomputable section

namespace Cert.Posterior

open Idealize.ShloMosaic

/-! ## Operations on real elements -/

theorem add_real (a b : ℝ) : (a : EReal) + (b : EReal) = ((a + b : ℝ) : EReal) := (EReal.coe_add a b).symm

theorem sub_real (a b : ℝ) : (a : EReal) - (b : EReal) = ((a - b : ℝ) : EReal) := (EReal.coe_sub a b).symm

theorem mul_real (a b : ℝ) : (a : EReal) * (b : EReal) = ((a * b : ℝ) : EReal) := (EReal.coe_mul a b).symm

theorem neg_real (a : ℝ) : -(a : EReal) = ((-a : ℝ) : EReal) := (EReal.coe_neg a).symm

theorem max_real (a b : ℝ) : max (a : EReal) (b : EReal) = ((max a b : ℝ) : EReal) :=
  (EReal.coe_strictMono.monotone.map_max).symm

theorem abs_real (a : ℝ) : FloatOps.absf (F := Ideal) (φ := .f32) (a : EReal) = ((|a| : ℝ) : EReal) := by
  show max (a : EReal) (-(a : EReal)) = _
  rw [neg_real, max_real]
  rfl

theorem log_real {a : ℝ} (h : 0 < a) : Ideal.log (a : EReal) = ((Real.log a : ℝ) : EReal) := by
  rw [Ideal.log_coe, if_neg (not_le.2 h)]

theorem log1p_real {a : ℝ} (h : 0 ≤ a) : Ideal.log1p (a : EReal) = ((Real.log (1 + a) : ℝ) : EReal) := by
  unfold Ideal.log1p
  rw [show (1 : EReal) = ((1 : ℝ) : EReal) from rfl, add_real, log_real (by linarith)]

theorem div_real (a : ℝ) {b : ℝ} (h : b ≠ 0) : Ideal.div (a : EReal) (b : EReal) = ((a / b : ℝ) : EReal) := by
  rw [Ideal.div_coe h, mul_real, mul_one_div]

/-- The correction term of a log-sum-exp of two real exponents. -/
theorem correction_real (a b : ℝ) :
    Ideal.log1p (Ideal.exp (-(FloatOps.absf (F := Ideal) (φ := .f32) ((a : EReal) - (b : EReal)))))
      = ((Real.log (1 + Real.exp (-|a - b|)) : ℝ) : EReal) := by
  rw [sub_real, abs_real, neg_real, Ideal.exp_coe, log1p_real (Real.exp_pos _).le]

/-- The log-sum-exp of two real exponents. -/
theorem lae_real (a b : ℝ) :
    max (a : EReal) (b : EReal)
        + Ideal.log1p (Ideal.exp (-(FloatOps.absf (F := Ideal) (φ := .f32) ((a : EReal) - (b : EReal)))))
      = ((lae a b : ℝ) : EReal) := by
  rw [correction_real, max_real, add_real]
  rfl

/-- The same with the sign changed by subtracting from zero, as the kernel does. -/
theorem lae_real_sub (a b : ℝ) :
    max (a : EReal) (b : EReal)
        + Ideal.log1p (Ideal.exp (0 - (FloatOps.absf (F := Ideal) (φ := .f32) ((a : EReal) - (b : EReal)))))
      = ((lae a b : ℝ) : EReal) := by
  rw [zero_sub, lae_real]

/-- Minus softplus of a real number. -/
theorem nsp_real (d : ℝ) :
    (0 : EReal) - (max (d : EReal) 0 + Ideal.log1p (Ideal.exp (0 - FloatOps.absf (F := Ideal) (φ := .f32) (d : EReal))))
      = ((nsp d : ℝ) : EReal) := by
  have h := lae_real_sub d 0
  rw [EReal.coe_zero, sub_zero] at h
  rw [h, zero_sub, neg_real, nsp_eq]

/-- The comparison with itself, which asks for a not-a-number, says no. -/
theorem ne_self (x : EReal) : Ideal.cmp .une x x = 0#1 := by
  simp [Ideal.cmp]

/-! ## Constants -/

theorem bits_zero : Ideal.ofBits .f32 0x00000000#32 = 0 := by
  simp [Ideal.ofBits, Ideal.ieee]

theorem bits_one : Ideal.ofBits .f32 0x3F800000#32 = ((1 : ℝ) : EReal) := by
  simp [Ideal.ofBits, Ideal.ieee, -EReal.coe_mul]; norm_num

theorem bits_1000 : Ideal.ofBits .f32 0x447A0000#32 = ((1000 : ℝ) : EReal) := by
  simp [Ideal.ofBits, Ideal.ieee, -EReal.coe_mul]; norm_num

theorem bits_neg_inf : Ideal.ofBits .f32 0xFF800000#32 = ⊥ := by
  simp [Ideal.ofBits, Ideal.ieee]

theorem bits_inf : Ideal.ofBits .f32 0x7F800000#32 = ⊤ := by
  simp [Ideal.ofBits, Ideal.ieee]

/-- The small final probability. -/
theorem bits_p1 : Ideal.ofBits .f32 0x2B8CBCCC#32 = ((p1 : ℝ) : EReal) := by
  simp [Ideal.ofBits, Ideal.ieee, -EReal.coe_mul, p1]; norm_num

/-- The 1e-40 of reference.py times 2^62, less than a half. -/
theorem bits_tiny_scaled : ∃ r : ℝ, Ideal.ofBits .f32 0x1C0B6131#32 = (r : EReal) ∧ 0 ≤ r ∧ r < 1 / 2 := by
  refine ⟨_, by simp [Ideal.ofBits, Ideal.ieee, -EReal.coe_mul]; rfl, ?_, ?_⟩ <;> norm_num

theorem bits_two_pow_neg62 : ∃ r : ℝ, Ideal.ofBits .f32 0x20800000#32 = (r : EReal) := by
  exact ⟨_, by simp [Ideal.ofBits, Ideal.ieee, -EReal.coe_mul]; rfl⟩

/-- The 1e-40 of reference.py as a float32 number. -/
theorem bits_tiny : ∃ r : ℝ, Ideal.ofBits .f32 0x000116C2#32 = (r : EReal) ∧ 0 ≤ r ∧ r < 1 / 10 ^ 39 := by
  refine ⟨_, by simp [Ideal.ofBits, Ideal.ieee, -EReal.coe_mul]; rfl, ?_, ?_⟩ <;> norm_num

theorem bits_two_pow_24 : Ideal.ofBits .f32 0x4B800000#32 = ((16777216 : ℝ) : EReal) := by
  simp [Ideal.ofBits, Ideal.ieee, -EReal.coe_mul]; norm_num

theorem bits_two_pow_neg24 : Ideal.ofBits .f32 0x33800000#32 = ((1 / 16777216 : ℝ) : EReal) := by
  simp [Ideal.ofBits, Ideal.ieee, -EReal.coe_mul]; norm_num

theorem bits_two_pow_33 : Ideal.ofBits .f32 0x50000000#32 = ((8589934592 : ℝ) : EReal) := by
  simp [Ideal.ofBits, Ideal.ieee, -EReal.coe_mul]; norm_num

theorem bits_two_pow_neg33 : ∃ r : ℝ, Ideal.ofBits .f32 0x2F000000#32 = (r : EReal) := by
  exact ⟨_, by simp [Ideal.ofBits, Ideal.ieee, -EReal.coe_mul]; rfl⟩

/-- The constant that the kernel subtracts from its cumulative tables: some real number. -/
theorem bits_log_np1 : ∃ r : ℝ, Ideal.ofBits .f32 0x40DD1485#32 = (r : EReal) := by
  exact ⟨_, by simp [Ideal.ofBits, Ideal.ieee, -EReal.coe_mul]; rfl⟩

end Cert.Posterior

end
-- ==== Proof.RefTables.lean ====
/- The schedule tables of the reference, element by element: at step `n` they hold the real numbers `logAlpha n`,
   `logCum n`, `logBeta n` and `logCumRest n`. -/
module

public import proofs.«01_k».proof.Proof.Scalars
public import proofs.«01_k».proof.Proof.Gen.ReferenceIdeal.Read
public import Idealize.ShloMosaic.Lib.ValueIdxRank1
public import Idealize.ShloMosaic.Lib.StableHlo.Predicate

@[expose] public section

noncomputable section

namespace Cert.Posterior

open Idealize.ShloMosaic Idealize.ShloMosaic.ValueIdx Cert.ReferenceIdeal Cert.ReferenceIdeal.Gen Cert.ReferenceIdeal.Read

theorem iota_toInt (n : Nat) (h : n < 1000) : (BitVec.ofNat 32 n).toInt = (n : Int) :=
  StableHlo.Predicate.toInt_ofNat_small n (by omega)

theorem step_lt (i : S1000.Idx) : (i 0).val < 1000 := (i 0).isLt

theorem table_logAlpha (i : S1000.Idx) : val_main_v12 (F := Ideal) i = ((logAlpha (i 0).val : ℝ) : EReal) := by
  have h := step_lt i
  have hr := le999 h
  have ha := alpha_pos h
  simp only [val_main_v12_apply, val_main_v11_apply, val_main_v10_apply, val_main_cst_4_apply, val_main_v9_apply,
    val_main_v8_apply, val_main_cst_3_apply, val_main_v7_apply, val_main_v6_apply, val_main_cst_2_apply,
    val_main_v5_apply, val_main_v4_apply, val_main_cst_1_apply, val_main_v3_apply, val_main_v2_apply]
  rw [show FloatOps.sitofp (F := Ideal) .f32 (BitVec.ofNat 32 (i 0).val) = (((i 0).val : ℝ) : EReal) from by
    show (((BitVec.ofNat 32 (i 0).val).toInt : ℝ) : EReal) = _
    rw [iota_toInt _ h]; rfl]
  simp only [Ideal.ofBits_def, Ideal.subf_def, Ideal.addf_def, Ideal.hostDivf_def, Ideal.hostUnary_log_def, bits_one, bits_1000,
    sub_real, add_real]
  rw [div_real _ (by linarith), sub_real, alpha_eq h, log_real ha]
  rfl

theorem sum_real (s : Finset ℕ) (f : ℕ → ℝ) : (∑ k ∈ s, (f k : EReal)) = ((∑ k ∈ s, f k : ℝ) : EReal) := by
  induction s using Finset.cons_induction with
  | empty => rfl
  | cons a s h ih => rw [Finset.sum_cons, Finset.sum_cons, ih, add_real]

/-- The positions of a window of length `m + 1` that ends at `j` and starts before the table: only the last `j + 1` count. -/
theorem sum_window (f : ℕ → EReal) (m j : ℕ) (h : j < m + 1) :
    (∑ k ∈ Finset.range (m + 1), if m ≤ j + k then f (j + k - m) else 0) = ∑ k ∈ Finset.range (j + 1), f k := by
  rw [show m + 1 = (m - j) + (j + 1) by omega, Finset.sum_range_add, Finset.sum_eq_zero, zero_add]
  · refine Finset.sum_congr rfl fun k _ => ?_
    rw [if_pos (by omega)]
    congr 1
    omega
  · intro k hk
    rw [if_neg]
    have := Finset.mem_range.1 hk
    omega

/-- A running sum of a table: element `j` is the sum of the elements up to `j`. -/
theorem runningSum {N m : ℕ} (hN : m + 1 = N) (x : (⟨1, ![N]⟩ : Shape).Idx → EReal) (f : ℕ → ℝ)
    (hx : ∀ i : (⟨1, ![N]⟩ : Shape).Idx, x i = ((f (i 0).val : ℝ) : EReal)) (init : S_.Idx → EReal) (hi : ∀ i, init i = 0)
    (h : (⟨1, ![N]⟩ : Shape).ReduceWindows (![N] : Fin 1 → ℕ) ![1] ![m] ![0] ⟨1, ![N]⟩) (hu : 0 < S_.numel)
    (j : (⟨1, ![N]⟩ : Shape).Idx) :
    Host.reduceWindowAdd (F := Ideal) (φ := .f32) (![N] : Fin 1 → ℕ) ![1] ![m] ![0] x init h hu j
      = ((∑ k ∈ Finset.range ((j 0).val + 1), f k : ℝ) : EReal) := by
  subst hN
  have hj : (j 0).val < m + 1 := (j 0).isLt
  have e : Host.reduceWindowAdd (F := Ideal) (φ := .f32) (![m + 1] : Fin 1 → ℕ) ![1] ![m] ![0] x init h hu j
      = ∑ k : (⟨1, ![m + 1]⟩ : Shape).Idx,
          if m ≤ (j 0).val + (k 0).val then ((f ((j 0).val + (k 0).val - m) : ℝ) : EReal) else 0 := by
    rw [sum_idx_eq_foldl]
    show List.foldl _ (init (Shape.Idx.first hu)) _ = _
    rw [hi]
    congr 1
    funext r n
    dsimp only
    congr 1
    have hw : ((⟨1, ![m + 1]⟩ : Shape).rowMajor.symm n 0).val < m + 1 := ((⟨1, ![m + 1]⟩ : Shape).rowMajor.symm n 0).isLt
    split
    · next hin =>
      have h0 := hin 0
      change m ≤ (j 0).val * 1 + ((⟨1, ![m + 1]⟩ : Shape).rowMajor.symm n 0).val ∧ (j 0).val * 1 + ((⟨1, ![m + 1]⟩ : Shape).rowMajor.symm n 0).val - m < m + 1 at h0
      rw [if_pos (by omega), hx]
      show ((f ((j 0).val * 1 + ((⟨1, ![m + 1]⟩ : Shape).rowMajor.symm n 0).val - m) : ℝ) : EReal) = _
      rw [Nat.mul_one]
    · next hin =>
      rw [if_neg]
      intro hle
      refine hin fun a => ?_
      match a with
      | ⟨0, _⟩ =>
        show m ≤ (j 0).val * 1 + ((⟨1, ![m + 1]⟩ : Shape).rowMajor.symm n 0).val ∧ (j 0).val * 1 + ((⟨1, ![m + 1]⟩ : Shape).rowMajor.symm n 0).val - m < m + 1
        omega
  rw [e, ← sum_real, ← sum_window (fun k => ((f k : ℝ) : EReal)) m (j 0).val hj]
  refine (Fintype.sum_equiv idxEquiv1 _ (fun k : Fin (m + 1) =>
    if m ≤ (j 0).val + k.val then ((f ((j 0).val + k.val - m) : ℝ) : EReal) else 0) (fun _ => rfl)).trans ?_
  exact Fin.sum_univ_eq_sum_range (fun k => if m ≤ (j 0).val + k then ((f ((j 0).val + k - m) : ℝ) : EReal) else 0) (m + 1)

theorem table_logCum (i : S1000.Idx) : val_main_v13 (F := Ideal) i = ((logCum (i 0).val : ℝ) : EReal) := by
  rw [← sum_logAlpha _ (step_lt i)]
  exact runningSum rfl _ _ table_logAlpha _ (fun k => by
    rw [val_main_call1_call0_v0_apply, val_main_call1_call0_cst_apply]
    exact bits_zero) _ _ i

/-- The small number under the logarithms is below half a unit of its rounding and disappears. -/
theorem tiny_zero (i : S_.Idx) : val_main_v1 (F := Ideal) i = 0 := by
  obtain ⟨r, hr, h0, h1⟩ := bits_tiny_scaled
  rw [val_main_v1_apply, val_main_v0_apply, val_main_cst_apply, Ideal.ofBits_def, hr, Ideal.hostUnary_roundeven_def,
    Ideal.liftRound_coe, round_zero h0 h1, Ideal.mulf_def]
  simp

theorem table_logBeta (i : S1000.Idx) : val_main_v20 (F := Ideal) i = ((logBeta (i 0).val : ℝ) : EReal) := by
  have h := step_lt i
  have hr := le999 h
  simp only [val_main_v20_apply, val_main_v19_apply, val_main_v18_apply, val_main_v17_apply, val_main_v16_apply,
    val_main_v15_apply, val_main_cst_5_apply, val_main_v14_apply, tiny_zero, table_logAlpha]
  simp only [Ideal.ofBits_def, Ideal.subf_def, Ideal.addf_def, Ideal.hostUnary_log_def, Ideal.hostUnary_exp_def, bits_one,
    Ideal.exp_coe, sub_real, add_zero]
  rw [beta_eq h, log_real (one_div_pos.2 (by linarith))]
  rfl

theorem table_logCumRest (i : S1000.Idx) : val_main_v27 (F := Ideal) i = ((logCumRest (i 0).val : ℝ) : EReal) := by
  have h := step_lt i
  simp only [val_main_v27_apply, val_main_v26_apply, val_main_v25_apply, val_main_v24_apply, val_main_v23_apply,
    val_main_v22_apply, val_main_cst_6_apply, val_main_v21_apply, tiny_zero, table_logCum]
  simp only [Ideal.ofBits_def, Ideal.subf_def, Ideal.addf_def, Ideal.hostUnary_log_def, Ideal.hostUnary_exp_def, bits_one,
    Ideal.exp_coe, sub_real, add_zero]
  rw [cumRest_eq h, log_real (by positivity)]
  rfl

/-! ## The two final probabilities -/

theorem rowMajor_scalar (j : S_.Idx) : (S_.rowMajor j).val = 0 := by
  have : (S_.rowMajor j).val < 1 := (S_.rowMajor j).isLt
  omega

theorem rowMajor_single (k : S1.Idx) : (S1.rowMajor k).val = 0 := by
  have : (S1.rowMajor k).val < 1 := (S1.rowMajor k).isLt
  omega

theorem final_one (i : S_.Idx) : val_main_v43 (F := Ideal) i = ((Real.log p1 : ℝ) : EReal) := by
  unfold val_main_v43
  rw [shapeCast_apply _ shapeCasts_S1_S_ i (ix1 0) (by rw [rowMajor_scalar, rowMajor_single]), val_main_v42_apply,
    val_main_v31_apply]
  unfold val_main_v30
  rw [concatenate_pair_apply_right (t := S2) (s₁ := S1) (s₂ := S1) 0 _ _ concatenates_S1_S1_S2_d0 _ rfl rfl (ix1 0)
    (fun b hb => absurd (Subsingleton.elim (α := Fin 1) _ _) hb) rfl]
  rw [val_main_v29_apply, val_main_cst_8_apply]
  rw [Ideal.ofBits_def, bits_p1, Ideal.hostUnary_log_def, log_real p1_pos]

theorem final_zero (i : S_.Idx) : val_main_v45 (F := Ideal) i = 0 := by
  unfold val_main_v45
  rw [shapeCast_apply _ shapeCasts_S1_S_ i (ix1 0) (by rw [rowMajor_scalar, rowMajor_single]), val_main_v44_apply,
    val_main_v31_apply]
  unfold val_main_v30
  rw [concatenate_pair_apply_left (t := S2) (s₁ := S1) (s₂ := S1) 0 _ _ concatenates_S1_S1_S2_d0 _ rfl (ix1 0)
    (fun b => by match b with | ⟨0, _⟩ => rfl)]
  rw [val_main_v28_apply, val_main_cst_7_apply]
  rw [Ideal.ofBits_def, bits_one, Ideal.hostUnary_log_def, log_real one_pos, Real.log_one]
  rfl

end Cert.Posterior
-- ==== Proof.RefPieces.lean ====
/- The pieces of the reference for one edge: the normalised logits and the entries taken from the schedule tables. -/
module

public import proofs.«01_k».proof.Proof.RefTables

@[expose] public section

noncomputable section

namespace Cert.Posterior

open Idealize.ShloMosaic Idealize.ShloMosaic.ValueIdx Cert.ReferenceIdeal Cert.ReferenceIdeal.Gen Cert.ReferenceIdeal.Read

/-! ## The largest of two real logits is real -/

theorem foldMax_bot_real {α : Type} (g : α → EReal) (l : List α) (hg : ∀ n, ∃ r : ℝ, g n = r) (hl : l ≠ []) :
    ∃ r : ℝ, l.foldl (fun m n => max m (g n)) ⊥ = r := by
  obtain ⟨n, l, rfl⟩ := List.exists_cons_of_ne_nil hl
  obtain ⟨r, hr⟩ := hg n
  rw [List.foldl_cons, hr, bot_sup_eq]
  clear hl hr
  induction l generalizing r with
  | nil => exact ⟨r, rfl⟩
  | cons n l ih =>
    obtain ⟨q, hq⟩ := hg n
    rw [List.foldl_cons, hq, max_real]
    exact ih _

theorem rowMax_real (x : S640000x2.Idx → EReal) (hx : ∀ i, ∃ r : ℝ, x i = r) (init : S_.Idx → EReal) (hi : ∀ i, init i = ⊥)
    (j : S640000.Idx) :
    ∃ M : ℝ, Host.reduce (FloatOps.maximumf (F := Ideal) (φ := .f32)) x init reducesTo_S640000x2_S640000_d1 h_S_ j = M := by
  unfold Host.reduce
  rw [hi]
  refine foldMax_bot_real (fun n => x (S640000x2.rowMajor.symm n)) _ (fun n => hx _) (List.ne_nil_of_mem
    (a := S640000x2.rowMajor (ix2 (j 0) (0 : Fin 2))) (List.mem_filter.2 ⟨List.mem_finRange _, decide_eq_true ?_⟩))
  rw [Equiv.symm_apply_apply]
  funext b
  match b with
  | ⟨0, _⟩ => exact Fin.ext (reducesTo_S640000x2_S640000_d1.drop_apply_val_of_eq _ 0 0)

theorem real_at {x : S640000x2.Idx → EReal} {s : Fin 640000 → Fin 2 → ℝ} (hx : ∀ e k, x (ix2 e k) = ((s e k : ℝ) : EReal))
    (i : S640000x2.Idx) : ∃ r : ℝ, x i = r := ⟨_, (congrArg x (eq_ix2 i)).trans (hx (i 0) (i 1))⟩

/-! ## The normalised logits -/

/-- The log-softmax of the first logits: subtracting their largest value `M` changes nothing in the end. -/
theorem logSoftmax0_form (x0 : S640000x2.Idx → EReal) (s : Fin 640000 → Fin 2 → ℝ) (hx : ∀ e k, x0 (ix2 e k) = ((s e k : ℝ) : EReal))
    (e : Fin 640000) : ∃ M : ℝ, ∀ k, val_main_v32 (F := Ideal) x0 (ix2 e k)
      = ((s e k - M - Real.log (Real.exp (s e 0 - M) + Real.exp (s e 1 - M)) : ℝ) : EReal) := by
  obtain ⟨M, hM⟩ := rowMax_real x0 (real_at hx) (val_main_call2_cst (F := Ideal)) (fun i => bits_neg_inf) (ix1 e)
  have h5 : ∀ k, val_main_call2_v5 (F := Ideal) x0 (ix2 e k) = ((s e k - M : ℝ) : EReal) := fun k => by
    have hi : idx_main_call2_v3 (idx_main_call2_v4 (ix2 e k)) = ix1 e := by
      funext a; match a with | ⟨0, _⟩ => rfl
    rw [val_main_call2_v5_apply, val_main_call2_v4_apply, val_main_call2_v3_apply, hi, val_main_call2_v2_apply,
      val_main_call2_v1_apply, val_main_call2_cst_0_apply, Ideal.ofBits_def, bits_neg_inf, hx]
    unfold val_main_call2_v0
    rw [hM, Ideal.maximumf_def, bot_sup_eq, Ideal.subf_def, sub_real]
  have h7 : val_main_call2_v7 (F := Ideal) x0 (ix1 e)
      = ((Real.exp (s e 0 - M) + Real.exp (s e 1 - M) : ℝ) : EReal) := by
    have hi : ∀ k, idx_main_call2_v7 (ix1 e) k = ix2 e k := fun k => by
      funext a; match a with | ⟨0, _⟩ => rfl | ⟨1, _⟩ => rfl
    rw [val_main_call2_v7_apply, Fin.sum_univ_two, hi, hi, val_main_call2_v6_apply, val_main_call2_v6_apply, h5, h5,
      val_main_call2_cst_1_apply, Ideal.ofBits_def, bits_zero, zero_add, Ideal.hostUnary_exp_def, Ideal.hostUnary_exp_def,
      Ideal.exp_coe, Ideal.exp_coe, add_real]
  refine ⟨M, fun k => ?_⟩
  have hi : idx_main_call2_v8 (idx_main_call2_v10 (ix2 e k)) = ix1 e := by
    funext a; match a with | ⟨0, _⟩ => rfl
  rw [val_main_v32_apply, h5, val_main_call2_v10_apply, val_main_call2_v9_apply, val_main_call2_v8_apply, hi, h7,
    Ideal.hostUnary_log_def, log_real (by positivity), Ideal.subf_def, sub_real]

/-- The log-softmax of the second logits: subtracting their largest value `M` changes nothing in the end. -/
theorem logSoftmax1_form (x1 : S640000x2.Idx → EReal) (s : Fin 640000 → Fin 2 → ℝ) (hx : ∀ e k, x1 (ix2 e k) = ((s e k : ℝ) : EReal))
    (e : Fin 640000) : ∃ M : ℝ, ∀ k, val_main_v33 (F := Ideal) x1 (ix2 e k)
      = ((s e k - M - Real.log (Real.exp (s e 0 - M) + Real.exp (s e 1 - M)) : ℝ) : EReal) := by
  obtain ⟨M, hM⟩ := rowMax_real x1 (real_at hx) (val_main_call3_cst (F := Ideal)) (fun i => bits_neg_inf) (ix1 e)
  have h5 : ∀ k, val_main_call3_v5 (F := Ideal) x1 (ix2 e k) = ((s e k - M : ℝ) : EReal) := fun k => by
    have hi : idx_main_call3_v3 (idx_main_call3_v4 (ix2 e k)) = ix1 e := by
      funext a; match a with | ⟨0, _⟩ => rfl
    rw [val_main_call3_v5_apply, val_main_call3_v4_apply, val_main_call3_v3_apply, hi, val_main_call3_v2_apply,
      val_main_call3_v1_apply, val_main_call3_cst_0_apply, Ideal.ofBits_def, bits_neg_inf, hx]
    unfold val_main_call3_v0
    rw [hM, Ideal.maximumf_def, bot_sup_eq, Ideal.subf_def, sub_real]
  have h7 : val_main_call3_v7 (F := Ideal) x1 (ix1 e)
      = ((Real.exp (s e 0 - M) + Real.exp (s e 1 - M) : ℝ) : EReal) := by
    have hi : ∀ k, idx_main_call3_v7 (ix1 e) k = ix2 e k := fun k => by
      funext a; match a with | ⟨0, _⟩ => rfl | ⟨1, _⟩ => rfl
    rw [val_main_call3_v7_apply, Fin.sum_univ_two, hi, hi, val_main_call3_v6_apply, val_main_call3_v6_apply, h5, h5,
      val_main_call3_cst_1_apply, Ideal.ofBits_def, bits_zero, zero_add, Ideal.hostUnary_exp_def, Ideal.hostUnary_exp_def,
      Ideal.exp_coe, Ideal.exp_coe, add_real]
  refine ⟨M, fun k => ?_⟩
  have hi : idx_main_call3_v8 (idx_main_call3_v10 (ix2 e k)) = ix1 e := by
    funext a; match a with | ⟨0, _⟩ => rfl
  rw [val_main_v33_apply, h5, val_main_call3_v10_apply, val_main_call3_v9_apply, val_main_call3_v8_apply, hi, h7,
    Ideal.hostUnary_log_def, log_real (by positivity), Ideal.subf_def, sub_real]

theorem first_one (x0 : S640000x2.Idx → EReal) (s : Fin 640000 → Fin 2 → ℝ) (hx : ∀ e k, x0 (ix2 e k) = ((s e k : ℝ) : EReal))
    (e : Fin 640000) : val_main_v47 (F := Ideal) x0 (ix1 e) = ((nsp (s e 1 - s e 0) + (s e 1 - s e 0) : ℝ) : EReal) := by
  obtain ⟨M, hM⟩ := logSoftmax0_form x0 s hx e
  have hi : idx_main_v46 (idx_main_v47 (ix1 e)) = ix2 e 1 := by
    funext a; match a with | ⟨0, _⟩ => exact Fin.ext (Nat.div_one _) | ⟨1, _⟩ => rfl
  rw [val_main_v47_apply, val_main_v46_apply, hi, hM, softmax_snd]

theorem first_zero (x0 : S640000x2.Idx → EReal) (s : Fin 640000 → Fin 2 → ℝ) (hx : ∀ e k, x0 (ix2 e k) = ((s e k : ℝ) : EReal))
    (e : Fin 640000) : val_main_v49 (F := Ideal) x0 (ix1 e) = ((nsp (s e 1 - s e 0) : ℝ) : EReal) := by
  obtain ⟨M, hM⟩ := logSoftmax0_form x0 s hx e
  have hi : idx_main_v48 (idx_main_v49 (ix1 e)) = ix2 e 0 := by
    funext a; match a with | ⟨0, _⟩ => exact Fin.ext (Nat.div_one _) | ⟨1, _⟩ => rfl
  rw [val_main_v49_apply, val_main_v48_apply, hi, hM, softmax_fst]

theorem second_one (x1 : S640000x2.Idx → EReal) (s : Fin 640000 → Fin 2 → ℝ) (hx : ∀ e k, x1 (ix2 e k) = ((s e k : ℝ) : EReal))
    (e : Fin 640000) : val_main_v51 (F := Ideal) x1 (ix1 e) = ((nsp (s e 1 - s e 0) + (s e 1 - s e 0) : ℝ) : EReal) := by
  obtain ⟨M, hM⟩ := logSoftmax1_form x1 s hx e
  have hi : idx_main_v50 (idx_main_v51 (ix1 e)) = ix2 e 1 := by
    funext a; match a with | ⟨0, _⟩ => exact Fin.ext (Nat.div_one _) | ⟨1, _⟩ => rfl
  rw [val_main_v51_apply, val_main_v50_apply, hi, hM, softmax_snd]

theorem second_zero (x1 : S640000x2.Idx → EReal) (s : Fin 640000 → Fin 2 → ℝ) (hx : ∀ e k, x1 (ix2 e k) = ((s e k : ℝ) : EReal))
    (e : Fin 640000) : val_main_v53 (F := Ideal) x1 (ix1 e) = ((nsp (s e 1 - s e 0) : ℝ) : EReal) := by
  obtain ⟨M, hM⟩ := logSoftmax1_form x1 s hx e
  have hi : idx_main_v52 (idx_main_v53 (ix1 e)) = ix2 e 0 := by
    funext a; match a with | ⟨0, _⟩ => exact Fin.ext (Nat.div_one _) | ⟨1, _⟩ => rfl
  rw [val_main_v53_apply, val_main_v52_apply, hi, hM, softmax_fst]

/-! ## The entries of the tables -/

theorem not_neg {k : ℕ} (h : k < 1000) : IntOp.cmpi .slt (BitVec.ofNat 32 k) 0#32 = 0#1 :=
  eq_zero_of_ne_one fun e => absurd ((StableHlo.Predicate.slt_ofNat_iff k 0 (by omega) (by omega)).1 e) (by omega)

/-- A table read at a step inside it. -/
theorem gather_table (x : S1000.Idx → EReal) (f : ℕ → ℝ) (hx : ∀ i : S1000.Idx, x i = ((f (i 0).val : ℝ) : EReal))
    (idx : S640000x1.Idx → BitVec 32) (e : Fin 640000) (k : ℕ) (hk : k < 1000) (hidx : idx (ix2 e (0 : Fin 1)) = BitVec.ofNat 32 k) :
    Host.gather gather_S1000_S640000x1_S640000_n_0_n_n_0_1_1 x idx (ix1 e) = ((f k : ℝ) : EReal) := by
  have hp : (StableHlo.Predicate.ixP e : S640000x1.Idx) = ix2 e (0 : Fin 1) := by
    funext a; match a with | ⟨0, _⟩ => rfl | ⟨1, _⟩ => rfl
  have he : (ix1 e : S640000.Idx) = Shape.Idx.ofFin e := Shape.Idx.eq_ofFin (ix1 e)
  rw [he, StableHlo.Predicate.gather_take gather_S1000_S640000x1_S640000_n_0_n_n_0_1_1 rfl rfl rfl rfl x idx e (by omega), hx]
  congr 2
  show min (idx (StableHlo.Predicate.ixP e)).toInt.toNat (1000 - 1) = k
  rw [hp, hidx, iota_toInt k hk]
  omega

/-- The step before, not below zero. -/
theorem step_before (x2 : S640000.Idx → BitVec 32) (i : S640000.Idx) (n : ℕ) (hn : n < 1000) (hx : x2 i = BitVec.ofNat 32 n) :
    val_main_v41 (F := Ideal) x2 i = BitVec.ofNat 32 (n - 1) := by
  simp only [val_main_v41_apply, val_main_v40_apply, val_main_v39_apply, val_main_c_11_apply, val_main_v38_apply,
    val_main_c_10_apply, val_main_v37_apply, val_main_v36_apply, val_main_c_9_apply, val_main_v35_apply, val_main_v34_apply,
    val_main_c_apply, hx]
  rcases Nat.eq_zero_or_pos n with rfl | h
  · rfl
  · have hs : IntOp.subi (BitVec.ofNat 32 n) 1#32 = BitVec.ofNat 32 (n - 1) := by
      apply BitVec.eq_of_toNat_eq
      show (BitVec.ofNat 32 n - 1#32).toNat = _
      rw [BitVec.toNat_sub]
      simp only [BitVec.toNat_ofNat]
      omega
    rw [hs, not_neg (by omega)]
    rfl

section
variable (x2 : S640000.Idx → BitVec 32) (e : Fin 640000) (n : ℕ) (hn : n < 1000) (hx : x2 (ix1 e) = BitVec.ofNat 32 n)
include hn hx

theorem logAlpha_at : val_main_v60 (F := Ideal) x2 (ix1 e) = ((logAlpha n : ℝ) : EReal) := by
  refine gather_table _ logAlpha table_logAlpha _ e n (by omega) ?_
  have hi : idx_main_v59 (ix2 e (0 : Fin 1)) = ix1 e := by funext a; match a with | ⟨0, _⟩ => rfl
  simp only [val_main_v59_apply, hi, val_main_v58_apply, val_main_v57_apply, val_main_v56_apply, val_main_c_13_apply, val_main_v55_apply, val_main_v54_apply, val_main_c_12_apply, hx]
  rw [not_neg (by omega)]
  rfl

theorem logBeta_at : val_main_v67 (F := Ideal) x2 (ix1 e) = ((logBeta n : ℝ) : EReal) := by
  refine gather_table _ logBeta table_logBeta _ e n (by omega) ?_
  have hi : idx_main_v66 (ix2 e (0 : Fin 1)) = ix1 e := by funext a; match a with | ⟨0, _⟩ => rfl
  simp only [val_main_v66_apply, hi, val_main_v65_apply, val_main_v64_apply, val_main_v63_apply, val_main_c_15_apply, val_main_v62_apply, val_main_v61_apply, val_main_c_14_apply, hx]
  rw [not_neg (by omega)]
  rfl

theorem logCum_before : val_main_v74 (F := Ideal) x2 (ix1 e) = ((logCum (n - 1) : ℝ) : EReal) := by
  refine gather_table _ logCum table_logCum _ e (n - 1) (by omega) ?_
  have hi : idx_main_v73 (ix2 e (0 : Fin 1)) = ix1 e := by funext a; match a with | ⟨0, _⟩ => rfl
  simp only [val_main_v73_apply, hi, val_main_v72_apply, val_main_v71_apply, val_main_v70_apply, val_main_c_17_apply, val_main_v69_apply, val_main_v68_apply, val_main_c_16_apply, step_before x2 _ n hn hx]
  rw [not_neg (by omega)]
  rfl

theorem logCumRest_before : val_main_v81 (F := Ideal) x2 (ix1 e) = ((logCumRest (n - 1) : ℝ) : EReal) := by
  refine gather_table _ logCumRest table_logCumRest _ e (n - 1) (by omega) ?_
  have hi : idx_main_v80 (ix2 e (0 : Fin 1)) = ix1 e := by funext a; match a with | ⟨0, _⟩ => rfl
  simp only [val_main_v80_apply, hi, val_main_v79_apply, val_main_v78_apply, val_main_v77_apply, val_main_c_19_apply, val_main_v76_apply, val_main_v75_apply, val_main_c_18_apply, step_before x2 _ n hn hx]
  rw [not_neg (by omega)]
  rfl

end

end Cert.Posterior
-- ==== Proof.RefValue.lean ====
/- The value of the reference for every edge: with `refZero` and `refOne` the unnormalised log-probabilities of the two
   states, the result is the log-probabilities after normalising, as functions of their difference. -/
module

public import proofs.«01_k».proof.Proof.RefPieces

@[expose] public section

noncomputable section

namespace Cert.Posterior

open Idealize.ShloMosaic Idealize.ShloMosaic.ValueIdx Cert.ReferenceIdeal Cert.ReferenceIdeal.Gen Cert.ReferenceIdeal.Read

/-- The arguments that the claim is about: two tables of real logits, and a step of the schedule for every edge. -/
structure Edges (x0 x1 : S640000x2.Idx → EReal) (x2 : S640000.Idx → BitVec 32) (s q : Fin 640000 → Fin 2 → ℝ)
    (n : Fin 640000 → ℕ) : Prop where
  first : ∀ e k, x0 (ix2 e k) = ((s e k : ℝ) : EReal)
  second : ∀ e k, x1 (ix2 e k) = ((q e k : ℝ) : EReal)
  step : ∀ e, x2 (ix1 e) = BitVec.ofNat 32 (n e)
  lt : ∀ e, n e < 1000

/-- A log-sum-exp of two real exponents as the reference spells it: the case of an undefined difference never occurs. -/
theorem lae_host (a b : ℝ) (c : EReal) :
    Scalar.select (FloatOps.cmpf (F := Ideal) (φ := .f32) .une (FloatOps.subf (F := Ideal) (φ := .f32) (a : EReal) (b : EReal))
        (FloatOps.subf (F := Ideal) (φ := .f32) (a : EReal) (b : EReal))) c
      (FloatOps.addf (F := Ideal) (φ := .f32) (FloatOps.maximumf (F := Ideal) (φ := .f32) (a : EReal) (b : EReal))
        (FloatOps.hostUnary (F := Ideal) (φ := .f32) .log1p (FloatOps.hostUnary (F := Ideal) (φ := .f32) .exp
          (FloatOps.hostNegf (F := Ideal) (φ := .f32) (FloatOps.hostAbsf (F := Ideal) (φ := .f32)
            (FloatOps.subf (F := Ideal) (φ := .f32) (a : EReal) (b : EReal)))))))
      = ((lae a b : ℝ) : EReal) := by
  rw [show ∀ x : EReal, FloatOps.cmpf (F := Ideal) (φ := .f32) .une x x = 0#1 from ne_self, select_zero]
  exact lae_real a b

theorem final_zero_real (i : S_.Idx) : val_main_v45 (F := Ideal) i = ((0 : ℝ) : EReal) := (final_zero i).trans EReal.coe_zero.symm

section
variable {x0 x1 : S640000x2.Idx → EReal} {x2 : S640000.Idx → BitVec 32} {s q : Fin 640000 → Fin 2 → ℝ} {n : Fin 640000 → ℕ}
variable (H : Edges x0 x1 x2 s q n) (e : Fin 640000)
include H

theorem at_v67 : val_main_v67 (F := Ideal) x2 (ix1 e) = ((logBeta (n e) : ℝ) : EReal) := logBeta_at x2 e (n e) (H.lt e) (H.step e)

/-- The rounded argument of the logarithm is 1: what is taken from 1 is less than half a unit. -/
theorem at_v97 : val_main_v97 (F := Ideal) x2 (ix1 e) = ((0 : ℝ) : EReal) := by
  have h := H.lt e
  have hr := le999 h
  obtain ⟨r, hr0, hr1, hr2⟩ := bits_tiny
  have hp := small_prob h
  have hlow : 1 / 10 ^ 39 < Real.exp (logBeta (n e) + Real.log p1) := by
    rw [exp_logBeta_p1 h]
    have h1 : (1 : ℝ) / 1001 ≤ 1 / (1001 - (n e : ℝ)) :=
      one_div_le_one_div_of_le (by linarith) (by have : (0 : ℝ) ≤ (n e : ℝ) := Nat.cast_nonneg _; linarith)
    have h2 := mul_le_mul_of_nonneg_right h1 p1_pos.le
    refine lt_of_lt_of_le ?_ h2
    unfold p1
    norm_num
  have hup : Real.exp (logBeta (n e) + Real.log p1) ≤ 1 / 2 * p1 := hp.2
  have hp1 : 1 / 2 * p1 * 16777216 < 1 / 2 := by unfold p1; norm_num
  simp only [val_main_v97_apply, val_main_v96_apply, val_main_v95_apply, val_main_v94_apply, val_main_v93_apply, val_main_v92_apply, val_main_v91_apply, val_main_v90_apply, val_main_v89_apply, val_main_v88_apply, val_main_v87_apply, val_main_v86_apply, val_main_v85_apply, val_main_cst_20_apply, val_main_cst_21_apply,
    val_main_cst_22_apply, val_main_cst_23_apply, at_v67 H, final_one]
  simp only [Ideal.ofBits_def, bits_one, hr0, bits_two_pow_24, bits_two_pow_neg24, Ideal.addf_def, Ideal.subf_def, Ideal.mulf_def,
    Ideal.hostUnary_exp_def, Ideal.hostUnary_roundeven_def, Ideal.hostUnary_log_def, add_real, Ideal.exp_coe, sub_real, mul_real,
    Ideal.liftRound_coe]
  rw [round_up (k := 16777216) (by push_cast; linarith) (by push_cast; linarith), log_real (by norm_num)]
  norm_num

theorem at_v108 : val_main_v108 (F := Ideal) x1 x2 (ix1 e)
    = ((lae (logBeta (n e) + Real.log p1 + (nsp (q e 1 - q e 0) + (q e 1 - q e 0))) (0 + nsp (q e 1 - q e 0)) : ℝ) : EReal) := by
  have h84 : val_main_v84 (F := Ideal) x1 x2 (ix1 e)
      = ((logBeta (n e) + Real.log p1 + (nsp (q e 1 - q e 0) + (q e 1 - q e 0)) : ℝ) : EReal) := by
    simp only [val_main_v84_apply, val_main_v83_apply, val_main_v82_apply, at_v67 H, final_one, second_one x1 q H.second, Ideal.addf_def, add_real]
  have h98 : val_main_v98 (F := Ideal) x1 x2 (ix1 e) = ((0 + nsp (q e 1 - q e 0) : ℝ) : EReal) := by
    rw [val_main_v98_apply, at_v97 H, second_zero x1 q H.second, Ideal.addf_def, add_real]
  simp only [val_main_v108_apply, val_main_v107_apply, val_main_v106_apply, val_main_v105_apply, val_main_v104_apply, val_main_v103_apply, val_main_v102_apply, val_main_v101_apply, val_main_v100_apply, val_main_v99_apply, h84, h98]
  exact lae_host _ _ _

/-- The rounded correction of the inner log-sum-exp is 0, and the larger exponent is the first. -/
theorem at_v122 : val_main_v122 (F := Ideal) x2 (ix1 e) = ((logAlpha (n e) : ℝ) : EReal) := by
  have h := H.lt e
  obtain ⟨r, hr⟩ := bits_two_pow_neg33
  have hc := correction_small h
  have hp1 : p1 * 8589934592 < 1 / 2 := by unfold p1; norm_num
  have h110 : val_main_v110 (F := Ideal) x2 (ix1 e) = ((logBeta (n e) + Real.log p1 : ℝ) : EReal) := by
    simp only [val_main_v110_apply, val_main_v109_apply, at_v67 H, final_one, Ideal.addf_def, add_real]
  have h116 : val_main_v116 (F := Ideal) x2 (ix1 e)
      = ((Real.log (1 + Real.exp (-|logAlpha (n e) - (logBeta (n e) + Real.log p1)|)) : ℝ) : EReal) := by
    simp only [val_main_v116_apply, val_main_v115_apply, val_main_v114_apply, val_main_v113_apply, val_main_v112_apply, logAlpha_at x2 e (n e) h (H.step e), h110]
    exact correction_real _ _
  simp only [val_main_v122_apply, val_main_v121_apply, val_main_v120_apply, val_main_v119_apply, val_main_v118_apply, val_main_v117_apply, val_main_v111_apply, val_main_cst_24_apply, val_main_cst_25_apply,
    logAlpha_at x2 e (n e) h (H.step e), h110, h116]
  simp only [Ideal.ofBits_def, bits_two_pow_33, hr, Ideal.addf_def, Ideal.mulf_def, Ideal.maximumf_def, Ideal.hostUnary_roundeven_def,
    mul_real, Ideal.liftRound_coe, max_real]
  rw [round_zero (mul_nonneg hc.1 (by norm_num)) (by linarith [hc.2]), max_eq_left (small_le_logAlpha h)]
  simp

theorem at_v136 : val_main_v136 (F := Ideal) x1 x2 (ix1 e)
    = ((lae (logAlpha (n e) + (nsp (q e 1 - q e 0) + (q e 1 - q e 0))) (logBeta (n e) + 0 + nsp (q e 1 - q e 0)) : ℝ) : EReal) := by
  have h123 : val_main_v123 (F := Ideal) x1 x2 (ix1 e)
      = ((logAlpha (n e) + (nsp (q e 1 - q e 0) + (q e 1 - q e 0)) : ℝ) : EReal) := by
    rw [val_main_v123_apply, at_v122 H, second_one x1 q H.second, Ideal.addf_def, add_real]
  have h126 : val_main_v126 (F := Ideal) x1 x2 (ix1 e) = ((logBeta (n e) + 0 + nsp (q e 1 - q e 0) : ℝ) : EReal) := by
    simp only [val_main_v126_apply, val_main_v125_apply, val_main_v124_apply, at_v67 H, final_zero_real, second_zero x1 q H.second,
      Ideal.addf_def, add_real]
  simp only [val_main_v136_apply, val_main_v135_apply, val_main_v134_apply, val_main_v133_apply, val_main_v132_apply, val_main_v131_apply, val_main_v130_apply, val_main_v129_apply, val_main_v128_apply, val_main_v127_apply, h123, h126]
  exact lae_host _ _ _

theorem at_v149 : val_main_v149 (F := Ideal) x0 x2 (ix1 e)
    = ((lae (logCumRest (n e - 1) + 0) (logCum (n e - 1) + nsp (s e 1 - s e 0)) : ℝ) : EReal) := by
  have h138 : val_main_v138 (F := Ideal) x2 (ix1 e) = ((logCumRest (n e - 1) + 0 : ℝ) : EReal) := by
    simp only [val_main_v138_apply, val_main_v137_apply, logCumRest_before x2 e (n e) (H.lt e) (H.step e), final_zero_real,
      Ideal.addf_def, add_real]
  have h139 : val_main_v139 (F := Ideal) x0 x2 (ix1 e) = ((logCum (n e - 1) + nsp (s e 1 - s e 0) : ℝ) : EReal) := by
    rw [val_main_v139_apply, logCum_before x2 e (n e) (H.lt e) (H.step e), first_zero x0 s H.first, Ideal.addf_def, add_real]
  simp only [val_main_v149_apply, val_main_v148_apply, val_main_v147_apply, val_main_v146_apply, val_main_v145_apply, val_main_v144_apply, val_main_v143_apply, val_main_v142_apply, val_main_v141_apply, val_main_v140_apply, h138, h139]
  exact lae_host _ _ _

theorem at_v162 : val_main_v162 (F := Ideal) x0 x2 (ix1 e)
    = ((lae (logCum (n e - 1) + (nsp (s e 1 - s e 0) + (s e 1 - s e 0))) (logCumRest (n e - 1) + Real.log p1) : ℝ) : EReal) := by
  have h150 : val_main_v150 (F := Ideal) x0 x2 (ix1 e)
      = ((logCum (n e - 1) + (nsp (s e 1 - s e 0) + (s e 1 - s e 0)) : ℝ) : EReal) := by
    rw [val_main_v150_apply, logCum_before x2 e (n e) (H.lt e) (H.step e), first_one x0 s H.first, Ideal.addf_def, add_real]
  have h152 : val_main_v152 (F := Ideal) x2 (ix1 e) = ((logCumRest (n e - 1) + Real.log p1 : ℝ) : EReal) := by
    simp only [val_main_v152_apply, val_main_v151_apply, logCumRest_before x2 e (n e) (H.lt e) (H.step e), final_one,
      Ideal.addf_def, add_real]
  simp only [val_main_v162_apply, val_main_v161_apply, val_main_v160_apply, val_main_v159_apply, val_main_v158_apply, val_main_v157_apply, val_main_v156_apply, val_main_v155_apply, val_main_v154_apply, val_main_v153_apply, h150, h152]
  exact lae_host _ _ _

/-- The unnormalised log-probabilities, joined along the states. -/
theorem at_v167 (k : Fin 2) : val_main_v167 (F := Ideal) x0 x1 x2 (ix2 e k)
    = (((if k = 0 then refZero (s e 1 - s e 0) (q e 1 - q e 0) (n e) else refOne (s e 1 - s e 0) (q e 1 - q e 0) (n e)) : ℝ) :
      EReal) := by
  unfold val_main_v167
  match k with
  | ⟨0, _⟩ =>
    rw [concatenate_pair_apply_left (t := S640000x2) (s₁ := S640000x1) (s₂ := S640000x1) 1 _ _
      concatenates_S640000x1_S640000x1_S640000x2_d1 _ rfl (ix2 e (0 : Fin 1))
      (fun b => by match b with | ⟨0, _⟩ => rfl | ⟨1, _⟩ => rfl)]
    have hi : idx_main_v165 (ix2 e (0 : Fin 1)) = ix1 e := by funext a; match a with | ⟨0, _⟩ => rfl
    rw [val_main_v165_apply, hi, val_main_v163_apply, at_v108 H, at_v149 H, Ideal.addf_def, add_real]
    rfl
  | ⟨1, _⟩ =>
    rw [concatenate_pair_apply_right (t := S640000x2) (s₁ := S640000x1) (s₂ := S640000x1) 1 _ _
      concatenates_S640000x1_S640000x1_S640000x2_d1 _ rfl rfl (ix2 e (0 : Fin 1))
      (fun b hb => by match b with | ⟨0, _⟩ => rfl | ⟨1, _⟩ => exact absurd rfl hb) rfl]
    have hi : idx_main_v166 (ix2 e (0 : Fin 1)) = ix1 e := by funext a; match a with | ⟨0, _⟩ => rfl
    rw [val_main_v166_apply, hi, val_main_v164_apply, at_v136 H, at_v162 H, Ideal.addf_def, add_real]
    rfl

/-- The result of the reference: normalising subtracts the log-sum-exp of the two. -/
theorem reference_value (k : Fin 2) : val_main_v178 (F := Ideal) x0 x1 x2 (ix2 e k)
    = (((if k = 0 then nsp (refOne (s e 1 - s e 0) (q e 1 - q e 0) (n e) - refZero (s e 1 - s e 0) (q e 1 - q e 0) (n e))
        else nsp (refOne (s e 1 - s e 0) (q e 1 - q e 0) (n e) - refZero (s e 1 - s e 0) (q e 1 - q e 0) (n e))
          + (refOne (s e 1 - s e 0) (q e 1 - q e 0) (n e) - refZero (s e 1 - s e 0) (q e 1 - q e 0) (n e))) : ℝ) : EReal) := by
  obtain ⟨M, hM⟩ := rowMax_real (val_main_v167 (F := Ideal) x0 x1 x2) (real_at (fun e k => at_v167 H e k))
    (val_main_cst_26 (F := Ideal)) (fun i => bits_neg_inf) (ix1 e)
  have hv := at_v167 H e
  generalize refZero (s e 1 - s e 0) (q e 1 - q e 0) (n e) = a at hv ⊢
  generalize refOne (s e 1 - s e 0) (q e 1 - q e 0) (n e) = b at hv ⊢
  have h169 : val_main_v169 (F := Ideal) x0 x1 x2 (ix2 e (0 : Fin 1)) = (M : EReal) := by
    have hi : idx_main_v169 (ix2 e (0 : Fin 1)) = ix1 e := by funext a; match a with | ⟨0, _⟩ => rfl
    rw [val_main_v169_apply, hi]
    exact hM
  have h172 : ∀ k, val_main_v172 (F := Ideal) x0 x1 x2 (ix2 e k) = ((Real.exp ((if k = 0 then a else b) - M) : ℝ) : EReal) := fun k => by
    have hi : idx_main_v170 (ix2 e k) = ix2 e (0 : Fin 1) := by funext a; match a with | ⟨0, _⟩ => rfl | ⟨1, _⟩ => rfl
    rw [val_main_v172_apply, val_main_v171_apply, val_main_v170_apply, hi, h169, hv, Ideal.subf_def, sub_real,
      Ideal.hostUnary_exp_def, Ideal.exp_coe]
  have h173 : val_main_v173 (F := Ideal) x0 x1 x2 (ix1 e) = ((Real.exp (a - M) + Real.exp (b - M) : ℝ) : EReal) := by
    have hi : ∀ k, idx_main_v173 (ix1 e) k = ix2 e k := fun k => by
      funext a; match a with | ⟨0, _⟩ => rfl | ⟨1, _⟩ => rfl
    rw [val_main_v173_apply, Fin.sum_univ_two, hi, hi, h172, h172, val_main_cst_27_apply, Ideal.ofBits_def, bits_zero, zero_add,
      add_real]
    rfl
  have hi : idx_main_v177 (ix2 e k) = ix2 e (0 : Fin 1) := by funext a; match a with | ⟨0, _⟩ => rfl | ⟨1, _⟩ => rfl
  have hi' : idx_main_v174 (ix2 e (0 : Fin 1)) = ix1 e := by funext a; match a with | ⟨0, _⟩ => rfl
  rw [val_main_v178_apply, hv, val_main_v177_apply, hi, val_main_v176_apply, h169, val_main_v175_apply, val_main_v174_apply, hi', h173,
    Ideal.hostUnary_log_def, log_real (by positivity), Ideal.addf_def, add_real, Ideal.subf_def, sub_real]
  match k with
  | ⟨0, _⟩ => exact congrArg _ (logsumexp_fst a b M)
  | ⟨1, _⟩ => exact congrArg _ (logsumexp_snd a b M)

end

end Cert.Posterior
-- ==== Proof.Input.lean ====
/- What the condition on the arguments says: every logit is a real number and every step lies in the schedule. -/
module

public import proofs.«01_k».proof.Pre_finite_in_schedule
public import proofs.«01_k».proof.Proof.RefValue

@[expose] public section

noncomputable section

namespace Cert.Posterior

open Idealize.ShloMosaic Idealize.ShloMosaic.ValueIdx Cert.Pre_finite_in_schedule

theorem input_facts : Cert.Pre_finite_in_schedule.Facts where
  bcast_S640000_S640000x1_0 := by decide +kernel
  bcast_S_S640000x2 := by decide +kernel
  bcast_S_S640000x1 := by decide +kernel
  bcast_S640000x1_S640000x2_0_1 := by decide +kernel

theorem both {a b : BitVec 1} (h : a &&& b = 1#1) : a = 1#1 ∧ b = 1#1 := by
  revert h; revert a b; decide

theorem yes {b : Bool} (h : BitVec.ofBool b = 1#1) : b = true := by
  revert h; revert b; decide

/-- An element whose absolute value is below infinity is a real number. -/
theorem real_of_small {x : EReal} (h : Ideal.cmp .olt (FloatOps.hostAbsf (F := Ideal) (φ := .f32) x) (Ideal.ofBits .f32 0x7F800000#32) = 1#1) :
    ∃ r : ℝ, x = (r : EReal) := by
  rw [bits_inf] at h
  have hlt : max x (-x) < ⊤ := of_decide_eq_true (yes h)
  induction x with
  | coe r => exact ⟨r, rfl⟩
  | bot => exact absurd hlt (by simp)
  | top => exact absurd hlt (by simp)

/-- A word between 0 and 999 as a signed integer is the word of a natural number below 1000. -/
theorem step_of_range {w : BitVec 32} (h0 : IntOp.cmpi .sge w 0#32 = 1#1) (h1 : IntOp.cmpi .slt w 1000#32 = 1#1) :
    w.toNat < 1000 := by
  have h0 : (0 : ℤ) ≤ w.toInt := of_decide_eq_true (yes h0)
  have h1 : w.toInt < (1000 : ℤ) := of_decide_eq_true (yes h1)
  have := w.isLt
  rw [BitVec.toInt_eq_toNat_cond] at h0 h1
  split at h0 <;> omega

theorem edges_of [Cert.Pre_finite_in_schedule.Facts] {x0 x1 : S640000x2.Idx → EReal} {x2 : S640000.Idx → BitVec 32}
    (h : Cert.Pre_finite_in_schedule.fn (F := Ideal) x0 x1 x2 = fun _ => 1#1) : ∃ s q n, Edges x0 x1 x2 s q n := by
  have hk : ∀ (e : Fin 640000) (k : Fin 2), (∃ r : ℝ, x0 (ix2 e k) = (r : EReal)) ∧ (∃ r : ℝ, x1 (ix2 e k) = (r : EReal))
      ∧ (x2 (ix1 e)).toNat < 1000 := by
    intro e k
    have hb : ∀ h, broadcastInDim S640000x1 ![0] h x2 (ix2 e (0 : Fin 1)) = x2 (ix1 e) := fun h =>
      broadcastInDim_apply _ h x2 _ (ix1 e) (fun a => by match a with | ⟨0, _⟩ => rfl)
    have hc : ∀ (h) (z : IVec S640000x1 1), broadcastInDim S640000x2 ![0, 1] h z (ix2 e k) = z (ix2 e (0 : Fin 1)) := fun h z =>
      broadcastInDim_apply _ h z _ (ix2 e (0 : Fin 1)) (fun a => by match a with | ⟨0, _⟩ => rfl | ⟨1, _⟩ => rfl)
    have hp := congrFun h (ix2 e k)
    obtain ⟨hp, h3⟩ := both hp
    obtain ⟨hp, h2⟩ := both hp
    obtain ⟨h0, h1⟩ := both hp
    refine ⟨real_of_small h0, real_of_small h1, ?_⟩
    have h2 := (hc _ _).symm.trans h2
    have h3 := (hc _ _).symm.trans h3
    have h2 : IntOp.cmpi .sge (broadcastInDim S640000x1 ![0] Facts.bcast_S640000_S640000x1_0 x2 (ix2 e (0 : Fin 1))) 0#32 = 1#1 := h2
    have h3 : IntOp.cmpi .slt (broadcastInDim S640000x1 ![0] Facts.bcast_S640000_S640000x1_0 x2 (ix2 e (0 : Fin 1))) 1000#32 = 1#1 := h3
    rw [hb] at h2 h3
    exact step_of_range h2 h3
  exact ⟨fun e k => (hk e k).1.choose, fun e k => (hk e k).2.1.choose, fun e => (x2 (ix1 e)).toNat,
    fun e k => (hk e k).1.choose_spec, fun e k => (hk e k).2.1.choose_spec,
    fun e => (BitVec.ofNat_toNat 32 _).trans (BitVec.setWidth_eq _) |>.symm, fun e => (hk e 0).2.2⟩

end Cert.Posterior
-- ==== Proof.KernelPoint.lean ====
/- What the kernel's body computes for one element of a block: from real logits and a step of the schedule, the two
   log-probabilities as functions of `kernelDiff`. -/
module

public import proofs.«01_k».proof.Proof.Scalars
public import proofs.«01_k».proof.Proof.Gen.KernelIdeal.Frame
public import Idealize.ShloMosaic.Lib.Pipeline.Value
public import Idealize.ShloMosaic.Lib.StableHlo.Predicate
public import Idealize.ShloMosaic.Lib.ValueIdxCore

@[expose] public section

noncomputable section

namespace Cert.Posterior

open Idealize.ShloMosaic Cert.KernelIdeal Cert.KernelIdeal.Gen

/-- The constant that the kernel subtracts from both cumulative tables. -/
def shift : ℝ := bits_log_np1.choose

theorem bits_shift : Ideal.ofBits .f32 0x40DD1485#32 = ((shift : ℝ) : EReal) := bits_log_np1.choose_spec

theorem zero_minus (a : ℝ) : (0 : EReal) - (a : EReal) = ((-a : ℝ) : EReal) := by rw [zero_sub, neg_real]

theorem named_log_n : (Named.named (F := Ideal) κ "log_n" (φ := .f32) 0x40DD0C55#32 : EReal) = ((Real.log 1000 : ℝ) : EReal) :=
  IdealRules.named_const.ideal_named_scalar _ _ _ _ rfl

theorem named_log_p1 : (Named.named (F := Ideal) κ "log_p1" (φ := .f32) 0xC1DD0C55#32 : EReal) = ((Real.log p1 : ℝ) : EReal) :=
  IdealRules.named_const.ideal_named_scalar _ _ _ _ rfl

section
variable {v0 v2 : Vec Ideal S1000x128 .f32} {i : S1000x128.Idx} {a b : ℝ} (h0 : v0 i = (a : EReal)) (h2 : v2 i = (b : EReal))
include h0 h2

theorem pay5_at : k0_pay5 (F := Ideal) v0 v2 i = ((b - a : ℝ) : EReal) := by
  unfold k0_pay5
  rw [shapeCast_self, shapeCast_self]
  show v2 i - v0 i = _
  rw [h0, h2, sub_real]

theorem pay6_at : k0_pay6 (F := Ideal) v0 v2 i = ((nsp (b - a) : ℝ) : EReal) := by
  unfold k0_pay6
  show Ideal.ofBits .f32 0#32 - (max (k0_pay5 v0 v2 i) (Ideal.ofBits .f32 0#32)
    + Ideal.log1p (Ideal.exp (Ideal.ofBits .f32 0#32 - FloatOps.absf (F := Ideal) (φ := .f32) (k0_pay5 v0 v2 i)))) = _
  rw [pay5_at h0 h2, bits_zero]
  exact nsp_real _

theorem pay7_at : k0_pay7 (F := Ideal) v0 v2 i = ((nsp (b - a) + (b - a) : ℝ) : EReal) := by
  unfold k0_pay7
  show k0_pay6 v0 v2 i + k0_pay5 v0 v2 i = _
  rw [pay5_at h0 h2, pay6_at h0 h2, add_real]

theorem pay8_at : k0_pay8 (F := Ideal) v0 v2 i = ((b - a : ℝ) : EReal) := by
  unfold k0_pay8
  rw [shapeCast_self, shapeCast_self]
  show v2 i - v0 i = _
  rw [h0, h2, sub_real]

theorem pay9_at : k0_pay9 (F := Ideal) v0 v2 i = ((nsp (b - a) : ℝ) : EReal) := by
  unfold k0_pay9
  show Ideal.ofBits .f32 0#32 - (max (k0_pay8 v0 v2 i) (Ideal.ofBits .f32 0#32)
    + Ideal.log1p (Ideal.exp (Ideal.ofBits .f32 0#32 - FloatOps.absf (F := Ideal) (φ := .f32) (k0_pay8 v0 v2 i)))) = _
  rw [pay8_at h0 h2, bits_zero]
  exact nsp_real _

theorem pay10_at : k0_pay10 (F := Ideal) v0 v2 i = ((nsp (b - a) + (b - a) : ℝ) : EReal) := by
  unfold k0_pay10
  show k0_pay9 v0 v2 i + k0_pay8 v0 v2 i = _
  rw [pay8_at h0 h2, pay9_at h0 h2, add_real]

end

section
variable {v8 : Vec Ideal S1000x128 .i32} {i : S1000x128.Idx} {n : ℕ} (hn : n < 1000) (h8 : v8 i = BitVec.ofNat 32 n)
include hn h8

theorem pay4_at : k0_pay4 (F := Ideal) v8 i = ((n : ℝ) : EReal) := by
  unfold k0_pay4
  rw [shapeCast_self]
  show (((v8 i).toInt : ℝ) : EReal) = _
  rw [h8, StableHlo.Predicate.toInt_ofNat_small n (by omega)]
  rfl

theorem pay11_at : k0_pay11 (F := Ideal) v8 i = ((1000 - n : ℝ) : EReal) := by
  unfold k0_pay11
  show Ideal.ofBits .f32 0x447A0000#32 - k0_pay4 v8 i = _
  rw [pay4_at hn h8, bits_1000, sub_real]

theorem pay12_at : k0_pay12 (F := Ideal) v8 i = ((Real.log (1000 - n + 1) : ℝ) : EReal) := by
  have hr := le999 hn
  unfold k0_pay12
  show Ideal.log (k0_pay11 v8 i + Ideal.ofBits .f32 0x3F800000#32) = _
  rw [pay11_at hn h8, bits_one, add_real, log_real (by linarith)]

theorem pay13_at : k0_pay13 (F := Ideal) v8 i = ((Real.log (1000 - n) : ℝ) : EReal) := by
  have hr := le999 hn
  unfold k0_pay13
  show Ideal.log (k0_pay11 v8 i) = _
  rw [pay11_at hn h8, log_real (by linarith)]

end

section
variable {v10 v21 v22 v33 v34 v39 v40 : FVec Ideal S1000x128 .f32} {i : S1000x128.Idx} {t g l x0 x1 y0 y1 : ℝ}

theorem pay14_at (h39 : v39 i = (g : EReal)) : k0_pay14 (F := Ideal) v39 i = ((-g : ℝ) : EReal) := by
  unfold k0_pay14
  show Ideal.ofBits .f32 0#32 - v39 i = _
  rw [h39, bits_zero, zero_minus]

theorem pay15_at (h10 : v10 i = (t : EReal)) (h39 : v39 i = (g : EReal)) :
    k0_pay15 (F := Ideal) v10 v39 i = (((if 1 ≤ t then g else Real.log 1000) - shift : ℝ) : EReal) := by
  unfold k0_pay15
  show Scalar.select (Ideal.cmp .oge (v10 i) (Ideal.ofBits .f32 0x3F800000#32)) (v39 i)
    (Named.named (F := Ideal) κ "log_n" (φ := .f32) 0x40DD0C55#32) - Ideal.ofBits .f32 0x40DD1485#32 = _
  rw [h10, h39, named_log_n, bits_shift, bits_one]
  by_cases h : 1 ≤ t
  · rw [if_pos h, show Ideal.cmp .oge (t : EReal) ((1 : ℝ) : EReal) = 1#1 from by show BitVec.ofBool (decide _) = 1#1; rw [decide_eq_true (EReal.coe_le_coe_iff.mpr h)]; rfl, Idealize.ShloMosaic.ValueIdx.select_one, sub_real]
  · rw [if_neg h, show Ideal.cmp .oge (t : EReal) ((1 : ℝ) : EReal) = 0#1 from by show BitVec.ofBool (decide _) = 0#1; rw [decide_eq_false (fun h1 => h (EReal.coe_le_coe_iff.mp h1))]; rfl, Idealize.ShloMosaic.ValueIdx.select_zero, sub_real]

theorem pay16_at (h10 : v10 i = (t : EReal)) : k0_pay16 (F := Ideal) v10 i = ((Real.log (max t 1) - shift : ℝ) : EReal) := by
  unfold k0_pay16
  show Ideal.log (max (v10 i) (Ideal.ofBits .f32 0x3F800000#32)) - Ideal.ofBits .f32 0x40DD1485#32 = _
  rw [h10, bits_one, bits_shift, max_real, log_real (lt_of_lt_of_le one_pos (le_max_right _ _)), sub_real]

theorem pay17_at (h33 : v33 i = (y0 : EReal)) (h34 : v34 i = (y1 : EReal)) (h39 : v39 i = (g : EReal)) :
    k0_pay17 (F := Ideal) v33 v34 v39 i = ((lae (-g + Real.log p1 + y1) y0 : ℝ) : EReal) := by
  have h57 : k0_pay14 v39 i + (Named.named (F := Ideal) κ "log_p1" (φ := .f32) 0xC1DD0C55#32 : EReal) + v34 i
      = ((-g + Real.log p1 + y1 : ℝ) : EReal) := by
    rw [pay14_at h39, named_log_p1, h34, add_real, add_real]
  unfold k0_pay17
  show max (k0_pay14 v39 i + (Named.named (F := Ideal) κ "log_p1" (φ := .f32) 0xC1DD0C55#32 : EReal) + v34 i) (v33 i)
    + Ideal.log1p (Ideal.exp (Ideal.ofBits .f32 0#32 - FloatOps.absf (F := Ideal) (φ := .f32)
      (k0_pay14 v39 i + (Named.named (F := Ideal) κ "log_p1" (φ := .f32) 0xC1DD0C55#32 : EReal) + v34 i - v33 i))) = _
  rw [h57, h33, bits_zero]
  exact lae_real_sub _ _

theorem pay18_at (h33 : v33 i = (y0 : EReal)) (h34 : v34 i = (y1 : EReal)) (h39 : v39 i = (g : EReal)) (h40 : v40 i = (l : EReal)) :
    k0_pay18 (F := Ideal) v33 v34 v39 v40 i = ((lae (l - g + y1) (-g + y0) : ℝ) : EReal) := by
  have h66 : v40 i - v39 i + v34 i = ((l - g + y1 : ℝ) : EReal) := by rw [h40, h39, h34, sub_real, add_real]
  have h67 : k0_pay14 v39 i + v33 i = ((-g + y0 : ℝ) : EReal) := by rw [pay14_at h39, h33, add_real]
  unfold k0_pay18
  show max (v40 i - v39 i + v34 i) (k0_pay14 v39 i + v33 i)
    + Ideal.log1p (Ideal.exp (Ideal.ofBits .f32 0#32 - FloatOps.absf (F := Ideal) (φ := .f32)
      (v40 i - v39 i + v34 i - (k0_pay14 v39 i + v33 i)))) = _
  rw [h66, h67, bits_zero]
  exact lae_real_sub _ _

theorem pay19_at (h10 : v10 i = (t : EReal)) (h21 : v21 i = (x0 : EReal)) (h39 : v39 i = (g : EReal)) :
    k0_pay19 (F := Ideal) v10 v21 v39 i
      = ((lae (Real.log (max t 1) - shift) ((if 1 ≤ t then g else Real.log 1000) - shift + x0) : ℝ) : EReal) := by
  have h76 : k0_pay15 v10 v39 i + v21 i = (((if 1 ≤ t then g else Real.log 1000) - shift + x0 : ℝ) : EReal) := by
    rw [pay15_at h10 h39, h21, add_real]
  unfold k0_pay19
  show max (k0_pay16 v10 i) (k0_pay15 v10 v39 i + v21 i)
    + Ideal.log1p (Ideal.exp (Ideal.ofBits .f32 0#32 - FloatOps.absf (F := Ideal) (φ := .f32)
      (k0_pay16 v10 i - (k0_pay15 v10 v39 i + v21 i)))) = _
  rw [h76, pay16_at h10, bits_zero]
  exact lae_real_sub _ _

theorem pay20_at (h10 : v10 i = (t : EReal)) (h22 : v22 i = (x1 : EReal)) (h39 : v39 i = (g : EReal)) :
    k0_pay20 (F := Ideal) v10 v22 v39 i = (((if 1 ≤ t then g else Real.log 1000) - shift + x1 : ℝ) : EReal) := by
  unfold k0_pay20
  show k0_pay15 v10 v39 i + v22 i = _
  rw [pay15_at h10 h39, h22, add_real]

theorem pay21_at (h10 : v10 i = (t : EReal)) :
    k0_pay21 (F := Ideal) v10 i = ((Real.log (max t 1) - shift + Real.log p1 : ℝ) : EReal) := by
  unfold k0_pay21
  show k0_pay16 v10 i + (Named.named (F := Ideal) κ "log_p1" (φ := .f32) 0xC1DD0C55#32 : EReal) = _
  rw [pay16_at h10, named_log_p1, add_real]

end

section
variable {v65 v75 v84 v88 v89 : FVec Ideal S1000x128 .f32} {i : S1000x128.Idx} {a b c d e : ℝ}
variable (h65 : v65 i = (a : EReal)) (h75 : v75 i = (b : EReal)) (h84 : v84 i = (c : EReal))
variable (h88 : v88 i = max (d : EReal) (e : EReal)) (h89 : v89 i = (d : EReal) - (e : EReal))
include h65 h75 h84 h88 h89

theorem pay1_at : k0_pay1 (F := Ideal) v65 v75 v84 v88 v89 i = ((b + lae d e - (a + c) : ℝ) : EReal) := by
  unfold k0_pay1
  show v75 i + (v88 i + Ideal.log1p (Ideal.exp (Ideal.ofBits .f32 0#32 - FloatOps.absf (F := Ideal) (φ := .f32) (v89 i))))
    - (v65 i + v84 i) = _
  rw [h88, h89, bits_zero, lae_real_sub, h65, h75, h84, add_real, add_real, sub_real]

theorem pay2_at : k0_pay2 (F := Ideal) v65 v75 v84 v88 v89 i = ((nsp (b + lae d e - (a + c)) : ℝ) : EReal) := by
  unfold k0_pay2
  show Ideal.ofBits .f32 0#32 - (max (k0_pay1 v65 v75 v84 v88 v89 i) (Ideal.ofBits .f32 0#32)
    + Ideal.log1p (Ideal.exp (Ideal.ofBits .f32 0#32
      - FloatOps.absf (F := Ideal) (φ := .f32) (k0_pay1 v65 v75 v84 v88 v89 i)))) = _
  rw [pay1_at h65 h75 h84 h88 h89, bits_zero]
  exact nsp_real _

theorem pay3_at : k0_pay3 (F := Ideal) v65 v75 v84 v88 v89 i
    = ((nsp (b + lae d e - (a + c)) + (b + lae d e - (a + c)) : ℝ) : EReal) := by
  unfold k0_pay3
  show k0_pay2 v65 v75 v84 v88 v89 i + k0_pay1 v65 v75 v84 v88 v89 i = _
  rw [pay1_at h65 h75 h84 h88 h89, pay2_at h65 h75 h84 h88 h89, add_real]

end

theorem offsets_zero : (![0, 0] : Fin 2 → ℕ) = fun _ => 0 := by
  funext a; match a with | ⟨0, _⟩ => rfl | ⟨1, _⟩ => rfl

section
variable {x0 x1 x2 x3 : Vec Ideal S1000x128 .f32} {x4 : Vec Ideal S1000x128 .i32} {i : S1000x128.Idx} {s0 s1 q0 q1 : ℝ} {n : ℕ}
variable (h0 : x0 i = (s0 : EReal)) (h1 : x1 i = (s1 : EReal)) (h2 : x2 i = (q0 : EReal)) (h3 : x3 i = (q1 : EReal))
variable (hn : n < 1000) (h4 : x4 i = BitVec.ofNat 32 n)
include h0 h1 h2 h3 hn h4

/-- The first result of the body at an element. -/
theorem out5_at : out0_5 (F := Ideal) x0 x1 x2 x3 x4 i = ((nsp (kernelDiff (s1 - s0) (q1 - q0) n shift) : ℝ) : EReal) := by
  unfold_out out0_5
  rw [View.canon_unit_zero offsets_zero]
  simp only [View.ld_unit_zero (S := S1000x128) offsets_zero]
  have h39 := pay12_at hn h4
  have h10 := pay4_at hn h4
  exact pay2_at (pay17_at (pay9_at h2 h3) (pay10_at h2 h3) h39)
    (pay18_at (pay9_at h2 h3) (pay10_at h2 h3) h39 (pay13_at hn h4))
    (pay19_at h10 (pay6_at h0 h1) h39)
    (congrArg₂ max (pay20_at h10 (pay7_at h0 h1) h39) (pay21_at h10))
    (congrArg₂ (fun a b : EReal => a - b) (pay20_at h10 (pay7_at h0 h1) h39) (pay21_at h10))

/-- The second. -/
theorem out6_at : out0_6 (F := Ideal) x0 x1 x2 x3 x4 i
    = ((nsp (kernelDiff (s1 - s0) (q1 - q0) n shift) + kernelDiff (s1 - s0) (q1 - q0) n shift : ℝ) : EReal) := by
  unfold_out out0_6
  rw [View.canon_unit_zero offsets_zero]
  simp only [View.ld_unit_zero (S := S1000x128) offsets_zero]
  have h39 := pay12_at hn h4
  have h10 := pay4_at hn h4
  exact pay3_at (pay17_at (pay9_at h2 h3) (pay10_at h2 h3) h39)
    (pay18_at (pay9_at h2 h3) (pay10_at h2 h3) h39 (pay13_at hn h4))
    (pay19_at h10 (pay6_at h0 h1) h39)
    (congrArg₂ max (pay20_at h10 (pay7_at h0 h1) h39) (pay21_at h10))
    (congrArg₂ (fun a b : EReal => a - b) (pay20_at h10 (pay7_at h0 h1) h39) (pay21_at h10))

end

end Cert.Posterior
-- ==== Proof.KernelValue.lean ====
/- The value of the kernel for every edge: the host's re-layouts before the call, the blocks that the grid writes, and the
   pairing of the two columns after it. -/
module

public import proofs.«01_k».proof.Proof.KernelPoint
public import proofs.«01_k».proof.Proof.RefValue
public import Idealize.ShloMosaic.Lib.Pipeline.ValueKit.Geometry
public import Idealize.ShloMosaic.Lib.StableHlo.Run

@[expose] public section

noncomputable section

namespace Cert.Posterior

open Idealize.ShloMosaic Idealize.ShloMosaic.ValueIdx Idealize.ShloMosaic.TcCoe Cert.KernelIdeal Cert.KernelIdeal.Gen Idealize.SL.Sem

/-- The edge that the tiled arrays hold at row `r`, lane `l`. -/
def tiled (i : S5000x128.Idx) : Fin 640000 :=
  ⟨(i 0).val * 128 + (i 1).val, by have := idx2_lt0 i; have := idx2_lt1 i; omega⟩

section
variable {α : Type}

/-- One column of a two-column array, laid out in rows of 128. -/
theorem column_apply (x : S640000x2.Idx → α) (k : Fin 2) (h : S640000x2.Slices ![0, k.val] S640000x1) (i : S5000x128.Idx) :
    shapeCast S5000x128 (shapeCast S640000 (extractStridedSlice S640000x1 ![0, k.val] x h) shapeCasts_S640000x1_S640000)
      shapeCasts_S640000_S5000x128 i = x (ix2 (tiled i) k) := by
  rw [shapeCast_apply _ shapeCasts_S640000_S5000x128 i (ix1 (tiled i))
      (by rw [Shape.rowMajor_val_one, Shape.rowMajor_val_two]; rfl),
    shapeCast_apply _ shapeCasts_S640000x1_S640000 (ix1 (tiled i)) (ix2 (tiled i) (0 : Fin 1))
      (by rw [Shape.rowMajor_val_one, Shape.rowMajor_val_two]; show (tiled i).val * 1 + 0 = (tiled i).val; omega),
    extractStridedSlice_apply _ x h _ (ix2 (tiled i) k)
      (fun a => by match a with | ⟨0, _⟩ => exact (Nat.zero_add _).symm | ⟨1, _⟩ => rfl)]

/-- An array over the edges, laid out in rows of 128. -/
theorem tiled_apply (x : S640000.Idx → α) (i : S5000x128.Idx) :
    shapeCast S5000x128 x shapeCasts_S640000_S5000x128 i = x (ix1 (tiled i)) :=
  shapeCast_apply _ _ i (ix1 (tiled i)) (by rw [Shape.rowMajor_val_one, Shape.rowMajor_val_two]; rfl)

/-- Where the tiled arrays hold an edge. -/
def place (e : Fin 640000) : S5000x128.Idx :=
  ix2 (⟨e.val / 128, by have := e.isLt; omega⟩ : Fin 5000) (⟨e.val % 128, by omega⟩ : Fin 128)

theorem tiled_place (e : Fin 640000) : tiled (place e) = e := Fin.ext (by show e.val / 128 * 128 + e.val % 128 = e.val; omega)

/-- A tiled array read back edge by edge. -/
theorem untiled_apply (x : S5000x128.Idx → α) (e : Fin 640000) :
    shapeCast S640000 x shapeCasts_S5000x128_S640000 (ix1 e) = x (place e) :=
  shapeCast_apply _ _ (ix1 e) (place e) (by
    rw [Shape.rowMajor_val_one, Shape.rowMajor_val_two]
    show e.val / 128 * 128 + e.val % 128 = e.val
    omega)

/-- Two arrays over the edges side by side, as the two columns of one. -/
theorem pair_apply (x y : S640000.Idx → α) (e : Fin 640000) (k : Fin 2) :
    concatenate S640000x2 1 [⟨S640000x1, broadcastInDim S640000x1 ![0] bcast_S640000_S640000x1_0 x⟩,
      ⟨S640000x1, broadcastInDim S640000x1 ![0] bcast_S640000_S640000x1_0 y⟩] concatenates_S640000x1_S640000x1_S640000x2_d1 (ix2 e k)
      = if k = 0 then x (ix1 e) else y (ix1 e) := by
  have hb : ∀ z : S640000.Idx → α, broadcastInDim S640000x1 ![0] bcast_S640000_S640000x1_0 z (ix2 e (0 : Fin 1)) = z (ix1 e) :=
    fun z => broadcastInDim_apply _ _ z _ (ix1 e) (fun a => by match a with | ⟨0, _⟩ => rfl)
  match k with
  | ⟨0, _⟩ =>
    rw [concatenate_pair_apply_left (t := S640000x2) (s₁ := S640000x1) (s₂ := S640000x1) 1 _ _
      concatenates_S640000x1_S640000x1_S640000x2_d1 _ rfl (ix2 e (0 : Fin 1))
      (fun b => by match b with | ⟨0, _⟩ => rfl | ⟨1, _⟩ => rfl), hb]
    rfl
  | ⟨1, _⟩ =>
    rw [concatenate_pair_apply_right (t := S640000x2) (s₁ := S640000x1) (s₂ := S640000x1) 1 _ _
      concatenates_S640000x1_S640000x1_S640000x2_d1 _ rfl rfl (ix2 e (0 : Fin 1))
      (fun b hb => by match b with | ⟨0, _⟩ => rfl | ⟨1, _⟩ => exact absurd rfl hb) rfl, hb]
    rfl

end

variable (m : (ℓ : Loc nD τ sig) → Buf (Elt Ideal) ℓ) (ρ : Dev nD → PrngReg) (c : Dev nD)

/-! ## What the call finds -/

theorem found_first0 (i : S5000x128.Idx) : V m c main_v2 i = m ((c : Thread nD τ).loc main_arg0) (ix2 (tiled i) 0) := by
  refine Eq.trans (congrFun ?_ i) (column_apply (m ((c : Thread nD τ).loc main_arg0)) 0 slices_S640000x2_S640000x1_0_0 i)
  show StableHlo.after hostOps0 _ (Proc.devRef .tc main_v2) = _
  after_results
  rfl

theorem found_first1 (i : S5000x128.Idx) : V m c main_v5 i = m ((c : Thread nD τ).loc main_arg0) (ix2 (tiled i) 1) := by
  refine Eq.trans (congrFun ?_ i) (column_apply (m ((c : Thread nD τ).loc main_arg0)) 1 slices_S640000x2_S640000x1_0_1 i)
  show StableHlo.after hostOps0 _ (Proc.devRef .tc main_v5) = _
  after_results
  rfl

theorem found_second0 (i : S5000x128.Idx) : V m c main_v8 i = m ((c : Thread nD τ).loc main_arg1) (ix2 (tiled i) 0) := by
  refine Eq.trans (congrFun ?_ i) (column_apply (m ((c : Thread nD τ).loc main_arg1)) 0 slices_S640000x2_S640000x1_0_0 i)
  show StableHlo.after hostOps0 _ (Proc.devRef .tc main_v8) = _
  after_results
  rfl

theorem found_second1 (i : S5000x128.Idx) : V m c main_v11 i = m ((c : Thread nD τ).loc main_arg1) (ix2 (tiled i) 1) := by
  refine Eq.trans (congrFun ?_ i) (column_apply (m ((c : Thread nD τ).loc main_arg1)) 1 slices_S640000x2_S640000x1_0_1 i)
  show StableHlo.after hostOps0 _ (Proc.devRef .tc main_v11) = _
  after_results
  rfl

theorem found_step (i : S5000x128.Idx) : V m c main_v12 i = m ((c : Thread nD τ).loc main_arg2) (ix1 (tiled i)) := by
  refine Eq.trans (congrFun ?_ i) (tiled_apply (m ((c : Thread nD τ).loc main_arg2)) i)
  show StableHlo.after hostOps0 _ (Proc.devRef .tc main_v12) = _
  after_results
  rfl

/-! ## What the grid writes -/

/-- All windows walk the arrays in step: row block `t` at point `t`. -/
theorem blocks_agree (t : Fin cfg0.N) : (win0_0.index t = win0_5.index t ∧ win0_1.index t = win0_5.index t ∧ win0_2.index t = win0_5.index t
    ∧ win0_3.index t = win0_5.index t ∧ win0_4.index t = win0_5.index t) ∧ win0_6.index t = win0_5.index t := by
  rcases fin_N0 t with rfl | rfl | rfl | rfl | rfl <;> decide +kernel

section
variable (t : Fin cfg0.N) (y : S1000x128.Idx)

theorem place0 : ((win0_0.rect t).emb y : S5000x128.Idx) = (win0_5.rect t).emb y := by
  funext a; apply Fin.ext
  refine (Pipeline.Window.rect_emb_val win0_0 t y a).trans (Eq.trans ?_ (Pipeline.Window.rect_emb_val win0_5 t y a).symm)
  rw [(blocks_agree t).1.1]

theorem place1 : ((win0_1.rect t).emb y : S5000x128.Idx) = (win0_5.rect t).emb y := by
  funext a; apply Fin.ext
  refine (Pipeline.Window.rect_emb_val win0_1 t y a).trans (Eq.trans ?_ (Pipeline.Window.rect_emb_val win0_5 t y a).symm)
  rw [(blocks_agree t).1.2.1]

theorem place2 : ((win0_2.rect t).emb y : S5000x128.Idx) = (win0_5.rect t).emb y := by
  funext a; apply Fin.ext
  refine (Pipeline.Window.rect_emb_val win0_2 t y a).trans (Eq.trans ?_ (Pipeline.Window.rect_emb_val win0_5 t y a).symm)
  rw [(blocks_agree t).1.2.2.1]

theorem place3 : ((win0_3.rect t).emb y : S5000x128.Idx) = (win0_5.rect t).emb y := by
  funext a; apply Fin.ext
  refine (Pipeline.Window.rect_emb_val win0_3 t y a).trans (Eq.trans ?_ (Pipeline.Window.rect_emb_val win0_5 t y a).symm)
  rw [(blocks_agree t).1.2.2.2.1]

theorem place4 : ((win0_4.rect t).emb y : S5000x128.Idx) = (win0_5.rect t).emb y := by
  funext a; apply Fin.ext
  refine (Pipeline.Window.rect_emb_val win0_4 t y a).trans (Eq.trans ?_ (Pipeline.Window.rect_emb_val win0_5 t y a).symm)
  rw [(blocks_agree t).1.2.2.2.2]

theorem place6 : ((win0_6.rect t).emb y : S5000x128.Idx) = (win0_5.rect t).emb y := by
  funext a; apply Fin.ext
  refine (Pipeline.Window.rect_emb_val win0_6 t y a).trans (Eq.trans ?_ (Pipeline.Window.rect_emb_val win0_5 t y a).symm)
  rw [(blocks_agree t).2]

end

section
variable {s q : Fin 640000 → Fin 2 → ℝ} {n : Fin 640000 → ℕ}

/-- The difference of the two unnormalised log-probabilities of an edge. -/
def gap (s q : Fin 640000 → Fin 2 → ℝ) (n : Fin 640000 → ℕ) (e : Fin 640000) : ℝ :=
  kernelDiff (s e 1 - s e 0) (q e 1 - q e 0) (n e) shift

/-- The two tiled results. -/
def lower (s q : Fin 640000 → Fin 2 → ℝ) (n : Fin 640000 → ℕ) (i : S5000x128.Idx) : EReal := ((nsp (gap s q n (tiled i)) : ℝ) : EReal)
def upper (s q : Fin 640000 → Fin 2 → ℝ) (n : Fin 640000 → ℕ) (i : S5000x128.Idx) : EReal :=
  ((nsp (gap s q n (tiled i)) + gap s q n (tiled i) : ℝ) : EReal)

variable {m c}
variable (H : Edges (m ((c : Thread nD τ).loc main_arg0)) (m ((c : Thread nD τ).loc main_arg1)) (m ((c : Thread nD τ).loc main_arg2)) s q n)
include H

theorem block5 (t : Fin cfg0.N) (y : S1000x128.Idx) :
    out0_5 (F := Ideal) (iblk m c 0 t) (iblk m c 1 t) (iblk m c 2 t) (iblk m c 3 t) (iblk m c 4 t) y = lower s q n ((win0_5.rect t).emb y) :=
  out5_at ((congrArg (V m c main_v2) (place0 t y)).trans ((found_first0 m c _).trans (H.first _ 0)))
    ((congrArg (V m c main_v5) (place1 t y)).trans ((found_first1 m c _).trans (H.first _ 1)))
    ((congrArg (V m c main_v8) (place2 t y)).trans ((found_second0 m c _).trans (H.second _ 0)))
    ((congrArg (V m c main_v11) (place3 t y)).trans ((found_second1 m c _).trans (H.second _ 1)))
    (H.lt _) ((congrArg (V m c main_v12) (place4 t y)).trans ((found_step m c _).trans (H.step _)))

theorem block6 (t : Fin cfg0.N) (y : S1000x128.Idx) :
    out0_6 (F := Ideal) (iblk m c 0 t) (iblk m c 1 t) (iblk m c 2 t) (iblk m c 3 t) (iblk m c 4 t) y = upper s q n ((win0_6.rect t).emb y) :=
  (out6_at ((congrArg (V m c main_v2) (place0 t y)).trans ((found_first0 m c _).trans (H.first _ 0)))
    ((congrArg (V m c main_v5) (place1 t y)).trans ((found_first1 m c _).trans (H.first _ 1)))
    ((congrArg (V m c main_v8) (place2 t y)).trans ((found_second0 m c _).trans (H.second _ 0)))
    ((congrArg (V m c main_v11) (place3 t y)).trans ((found_second1 m c _).trans (H.second _ 1)))
    (H.lt _) ((congrArg (V m c main_v12) (place4 t y)).trans ((found_step m c _).trans (H.step _)))).trans
    (congrArg (upper s q n) (place6 t y).symm)

theorem final5 : (dats m 0 c).arrAt 5 cfg0.N = lower s q n := by
  refine (dats m 0 c).arrAt_eq_of_covers 5 (lower s q n) (by decide +kernel) fun t hf y => ?_
  blk_simp
  rw [after0_5]
  exact block5 H t y

theorem final6 : (dats m 0 c).arrAt 6 cfg0.N = upper s q n := by
  refine (dats m 0 c).arrAt_eq_of_covers 6 (upper s q n) (by decide +kernel) fun t hf y => ?_
  blk_simp
  rw [after0_6]
  exact block6 H t y

/-! ## What the host makes of it -/

theorem tail_apply (e : Fin 640000) (k : Fin 2) :
    (Pipeline.afterTail₀ cfgs (dats m) 0 (V0 m) [hostOps1] c main_v18 : S640000x2.Idx → EReal) (ix2 e k)
      = ((if k = 0 then nsp (gap s q n e) else nsp (gap s q n e) + gap s q n e : ℝ) : EReal) := by
  have h : (Pipeline.afterTail₀ cfgs (dats m) 0 (V0 m) [hostOps1] c main_v18 : S640000x2.Idx → EReal)
      = concatenate S640000x2 1 [⟨S640000x1, broadcastInDim S640000x1 ![0] bcast_S640000_S640000x1_0
            (shapeCast S640000 (lower s q n) shapeCasts_S5000x128_S640000)⟩,
          ⟨S640000x1, broadcastInDim S640000x1 ![0] bcast_S640000_S640000x1_0
            (shapeCast S640000 (upper s q n) shapeCasts_S5000x128_S640000)⟩] concatenates_S640000x1_S640000x1_S640000x2_d1 := by
    rw [← final5 H, ← final6 H, ← Pipeline.withArrays_arr spec0 (by decide) c (V0 m c) (fun w => (dats m 0 c).arrAt w cfg0.N) 5,
      ← Pipeline.withArrays_arr spec0 (by decide) c (V0 m c) (fun w => (dats m 0 c).arrAt w cfg0.N) 6]
    unfold Pipeline.afterTail₀
    show StableHlo.after hostOps1 _ (Proc.devRef .tc main_v18) = _
    after_results
    rfl
  rw [h, pair_apply, untiled_apply, untiled_apply]
  unfold lower upper
  rw [tiled_place]
  split <;> rfl

end

end Cert.Posterior
-- ==== Proof.Claims.lean ====
/- The claims of the certificate: the frames, the named constants, and the equality of the two programs' results. -/
module

public import proofs.«01_k».proof.Defs
public import proofs.«01_k».proof.Proof.Input
public import proofs.«01_k».proof.Proof.KernelValue
public import proofs.«01_k».proof.Proof.Gen.Kernel
public import proofs.«01_k».proof.Proof.Gen.Kernel.Frame
public import proofs.«01_k».proof.Proof.Gen.ReferenceIdeal.Run
public import proofs.«01_k».proof.Proof.Gen.ReferenceIdeal.Read
public import Idealize.ShloMosaic.Lib.Quiescent
public import Idealize.ShloMosaic.Lib.Claim

@[expose] public section

noncomputable section

namespace Cert.Posterior

open Idealize.ShloMosaic Idealize.ShloMosaic.ValueIdx Idealize.ShloMosaic.TcCoe Idealize.SL.Sem

theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
      ∧ r.2.sem = fun _ => 0 :=
  (θ_run (Cert.ReferenceIdeal.defs (F := Ideal)) _ _).mono
    (fun r h => And.intro (fun c => (h c).2) (sem_eq_zero_of_no_sems (by decide) r.2)) (Cert.ReferenceIdeal.Value.run (F := Ideal) m g)

theorem preserves : Cert.preserves_Kernel_KernelIdeal :=
  ⟨IdealRules.named_const.statement Cert.KernelIdeal.κ "log_n" .f32 0x40DD0C55#32 ((Real.log 1000 : ℝ) : EReal) rfl,
    IdealRules.named_const.statement Cert.KernelIdeal.κ "log_p1" .f32 0xC1DD0C55#32
      ((Real.log (2305843 / 2305843009213693952) : ℝ) : EReal) rfl⟩

section
open Cert.KernelIdeal Cert.KernelIdeal.Gen

/-- The kernel's result on a device: what the lines after the call leave in the result array. -/
abbrev result (m : (ℓ : Loc nD τ sig) → Buf (Elt Ideal) ℓ) (c : Dev nD) : Buf (Elt Ideal) ((c.tc : Thread nD τ).loc main_v18) :=
  Pipeline.afterTail₀ cfgs (dats (F := Ideal) m) 0 (V0 m) [hostOps1] c main_v18

theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v18) = result m c :=
  (θ_run defs _ _).mono (fun _ h c => (h c).2 main_v18 (Pipeline.mem_restRefs_of main_v18 (by decide) (by decide))) (run_main m g)

end

/-- The two programs compute the same log-probabilities. -/
theorem results_agree {m : (ℓ : Loc Cert.KernelIdeal.nD Cert.KernelIdeal.τ Cert.KernelIdeal.sig) → Buf (Elt Ideal) ℓ}
    {c : Dev Cert.KernelIdeal.nD} {x0 x1 : Cert.ReferenceIdeal.S640000x2.Idx → EReal} {x2 : Cert.ReferenceIdeal.S640000.Idx → BitVec 32}
    (e0 : x0 = m ((c.tc : Thread Cert.KernelIdeal.nD Cert.KernelIdeal.τ).loc Cert.KernelIdeal.main_arg0))
    (e1 : x1 = m ((c.tc : Thread Cert.KernelIdeal.nD Cert.KernelIdeal.τ).loc Cert.KernelIdeal.main_arg1))
    (e2 : x2 = m ((c.tc : Thread Cert.KernelIdeal.nD Cert.KernelIdeal.τ).loc Cert.KernelIdeal.main_arg2))
    {s q : Fin 640000 → Fin 2 → ℝ} {n : Fin 640000 → ℕ} (H : Edges x0 x1 x2 s q n) :
    Cert.ReferenceIdeal.Read.val_main_v178 (F := Ideal) x0 x1 x2 = result m c := by
  have each : ∀ (e : Fin 640000) (k : Fin 2), Cert.ReferenceIdeal.Read.val_main_v178 (F := Ideal) x0 x1 x2 (ix2 e k)
      = (result m c : Cert.ReferenceIdeal.S640000x2.Idx → EReal) (ix2 e k) := by
    intro e k
    rw [reference_value H]
    subst e0 e1 e2
    refine Eq.trans ?_ (tail_apply H e k).symm
    unfold gap
    rw [kernelDiff_eq _ _ _ (H.lt _)]
  have pair : ∀ i : Cert.ReferenceIdeal.S640000x2.Idx, i = ix2 (i 0) (i 1) := fun i => eq_ix2 i
  exact funext fun i => by rw [pair i]; exact each _ _

theorem algebraic [hPre_finite_in_schedule : Cert.Pre_finite_in_schedule.Facts] :
    Cert.algebraic_KernelIdeal_ReferenceIdeal_pre_finite_in_schedule
      (hKernelIdeal := Cert.KernelIdeal.Gen.facts) (hReferenceIdeal := Cert.ReferenceIdeal.Gen.facts) := by
  intro m g m' g' hpre hagree
  refine ⟨result m, ?_, ?_⟩
  · exact (θ_run Cert.KernelIdeal.defs _ _).mono (fun r h c => ⟨h.1 c, h.2.1 c⟩)
      (θ_run_and (kernel_run m g) (Cert.KernelIdeal.Gen.frame (F := Ideal) m g))
  · refine (θ_run Cert.ReferenceIdeal.defs _ _).mono (fun r h c => ⟨(h c).1.trans ?_, (h c).2⟩)
      (Cert.ReferenceIdeal.Value.run (F := Ideal) m' g')
    rw [Cert.ReferenceIdeal.Read.val_main_v178_eq]
    obtain ⟨e0, e1, e2⟩ := hagree c
    obtain ⟨s, q, n, H⟩ := edges_of (hpre c)
    exact results_agree e0 e1 e2 (by
      rw [StableHlo.launchContents_devRef, StableHlo.launchContents_devRef, StableHlo.launchContents_devRef, e0, e1, e2]; exact H)

end Cert.Posterior
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Posterior.input_facts,
  fun m g _ => Cert.Kernel.Gen.frame m g,
  fun m g _ => Cert.KernelIdeal.Gen.frame m g,
  fun m g _ => Cert.KernelIdeal.Gen.frame m g,
  fun m g _ => Cert.Posterior.frame_reference m g,
  fun m g _ => Cert.Posterior.frame_reference m g,
  Cert.Posterior.preserves,
  Cert.Posterior.algebraic (hPre_finite_in_schedule := Cert.Posterior.input_facts)⟩

end Cert.Proof

end
